-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def preserves_Kernel_KernelIdeal : Prop :=
  IdealRules.named_const.Statement Cert.KernelIdeal.κ "q_scale" .f32 0x3E38AA3B#32 (((Real.sqrt 64)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v49_0)) (v1 : (c : Dev Cert.Kernel2Ideal.nD) → Buf (Elt Ideal) ((c.tc : Thread Cert.Kernel2Ideal.nD Cert.Kernel2Ideal.τ).loc Cert.Kernel2Ideal.main_v49_1)) (v2 : (c : Dev Cert.Kernel2Ideal.nD) → Buf (Elt Ideal) ((c.tc : Thread Cert.Kernel2Ideal.nD Cert.Kernel2Ideal.τ).loc Cert.Kernel2Ideal.main_v49_2)) (v3 : (c : Dev Cert.Kernel2Ideal.nD) → Buf (Elt Ideal) ((c.tc : Thread Cert.Kernel2Ideal.nD Cert.Kernel2Ideal.τ).loc Cert.Kernel2Ideal.main_v49_3)) (v4 : (c : Dev Cert.Kernel2Ideal.nD) → Buf (Elt Ideal) ((c.tc : Thread Cert.Kernel2Ideal.nD Cert.Kernel2Ideal.τ).loc Cert.Kernel2Ideal.main_v49_4)) (v5 : (c : Dev Cert.Kernel2Ideal.nD) → Buf (Elt Ideal) ((c.tc : Thread Cert.Kernel2Ideal.nD Cert.Kernel2Ideal.τ).loc Cert.Kernel2Ideal.main_v49_5)) (v6 : (c : Dev Cert.Kernel2Ideal.nD) → Buf (Elt Ideal) ((c.tc : Thread Cert.Kernel2Ideal.nD Cert.Kernel2Ideal.τ).loc Cert.Kernel2Ideal.main_v49_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v49_0) = v0 c
          ∧ r.2.mem ((c.tc : Thread Cert.Kernel2Ideal.nD Cert.Kernel2Ideal.τ).loc Cert.Kernel2Ideal.main_v49_1) = v1 c
          ∧ r.2.mem ((c.tc : Thread Cert.Kernel2Ideal.nD Cert.Kernel2Ideal.τ).loc Cert.Kernel2Ideal.main_v49_2) = v2 c
          ∧ r.2.mem ((c.tc : Thread Cert.Kernel2Ideal.nD Cert.Kernel2Ideal.τ).loc Cert.Kernel2Ideal.main_v49_3) = v3 c
          ∧ r.2.mem ((c.tc : Thread Cert.Kernel2Ideal.nD Cert.Kernel2Ideal.τ).loc Cert.Kernel2Ideal.main_v49_4) = v4 c
          ∧ r.2.mem ((c.tc : Thread Cert.Kernel2Ideal.nD Cert.Kernel2Ideal.τ).loc Cert.Kernel2Ideal.main_v49_5) = v5 c
          ∧ r.2.mem ((c.tc : Thread Cert.Kernel2Ideal.nD Cert.Kernel2Ideal.τ).loc Cert.Kernel2Ideal.main_v49_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v149) = v0 c
          ∧ r.2.mem ((c.tc : Thread Cert.Reference2Ideal.nD Cert.Reference2Ideal.τ).loc Cert.Reference2Ideal.main_v152) = v1 c
          ∧ r.2.mem ((c.tc : Thread Cert.Reference2Ideal.nD Cert.Reference2Ideal.τ).loc Cert.Reference2Ideal.main_v147) = v2 c
          ∧ r.2.mem ((c.tc : Thread Cert.Reference2Ideal.nD Cert.Reference2Ideal.τ).loc Cert.Reference2Ideal.main_v154) = v3 c
          ∧ r.2.mem ((c.tc : Thread Cert.Reference2Ideal.nD Cert.Reference2Ideal.τ).loc Cert.Reference2Ideal.main_v177) = v4 c
          ∧ r.2.mem ((c.tc : Thread Cert.Reference2Ideal.nD Cert.Reference2Ideal.τ).loc Cert.Reference2Ideal.main_v200) = v5 c
          ∧ r.2.mem ((c.tc : Thread Cert.Reference2Ideal.nD Cert.Reference2Ideal.τ).loc Cert.Reference2Ideal.main_v202) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S8x4096x512 : Shape := ⟨3, ![8, 4096, 512]⟩
abbrev S8x256x512 : Shape := ⟨3, ![8, 256, 512]⟩
abbrev S64 : Shape := ⟨1, ![64]⟩
abbrev S_ : Shape := ⟨0, ![]⟩
abbrev S128 : Shape := ⟨1, ![128]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x256x512 : S_.BroadcastsInDim S8x256x512 (![] : Fin 0 → Fin S8x256x512.rank)
  reducesTo_S8x256x512_S_d0_1_2 : S8x256x512.ReducesTo [0, 1, 2] S_

variable [Facts]

def fn {F : FTy → Type} [FloatOps F] (main_arg0 : FVec F S8x4096x512 .f32) (main_arg1 : FVec F S8x4096x512 .f32) (main_arg2 : FVec F S8x4096x512 .f32) (main_arg3 : FVec F S8x256x512 .f32) (main_arg4 : FVec F S8x256x512 .f32) (main_arg5 : FVec F S8x256x512 .f32) (main_arg6 : FVec F S64 .f32) (main_arg7 : FVec F S64 .f32) (main_arg8 : FVec F S64 .f32) (main_arg9 : FVec F S64 .f32) (main_arg10 : FVec F S_ .f32) (main_arg11 : FVec F S128 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x4096x512 .f32 := Host.absf main_arg1
  let main_cst_0 : FVec F S_ .f32 := constant S_ .f32 0x7F800000#32
  let main_v5 : FVec F S8x4096x512 .f32 := broadcastInDim S8x4096x512 ![] bcast_S_S8x4096x512 main_cst_0
  let main_v6 : IVec S8x4096x512 1 := cmpf .olt main_v4 main_v5
  let main_c_1 : IVec S_ 1 := constantI S_ 1 1#1
  let main_v7 : IVec S_ 1 := (fun x v => Host.reduce IntOp.andi x v reducesTo_S8x4096x512_S_d0_1_2 h_S_) main_v6 main_c_1
  let main_v8 : IVec S_ 1 := andi main_v3 main_v7
  let main_v9 : FVec F S8x256x512 .f32 := Host.absf main_arg4
  let main_cst_2 : FVec F S_ .f32 := constant S_ .f32 0x7F800000#32
  let main_v10 : FVec F S8x256x512 .f32 := broadcastInDim S8x256x512 ![] bcast_S_S8x256x512 main_cst_2
  let main_v11 : IVec S8x256x512 1 := cmpf .olt main_v9 main_v10
  let main_c_3 : IVec S_ 1 := constantI S_ 1 1#1
  let main_v12 : IVec S_ 1 := (fun x v => Host.reduce IntOp.andi x v reducesTo_S8x256x512_S_d0_1_2 h_S_) main_v11 main_c_3
  let main_v13 : IVec S_ 1 := andi main_v8 main_v12
  main_v13
-- ==== Kernel.lean ====
abbrev S8x4096x512 : Shape := ⟨3, ![8, 4096, 512]⟩
abbrev S8x256x512 : Shape := ⟨3, ![8, 256, 512]⟩
abbrev S64 : Shape := ⟨1, ![64]⟩
abbrev S_ : Shape := ⟨0, ![]⟩
abbrev S128 : Shape := ⟨1, ![128]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4096x64 : Shape := ⟨2, ![4096, 64]⟩
abbrev S1x4096x1x64 : Shape := ⟨4, ![1, 4096, 1, 64]⟩
abbrev S1x4096x8x64 : Shape := ⟨4, ![1, 4096, 8, 64]⟩
abbrev S4096x512 : Shape := ⟨2, ![4096, 512]⟩
abbrev S256x512 : Shape := ⟨2, ![256, 512]⟩
abbrev S4352x512 : Shape := ⟨2, ![4352, 512]⟩
abbrev S1x512 : Shape := ⟨2, ![1, 512]⟩
abbrev S8x4352x512 : Shape := ⟨3, ![8, 4352, 512]⟩
abbrev S8x4352x480 : Shape := ⟨3, ![8, 4352, 480]⟩
abbrev S8x4352x32 : Shape := ⟨3, ![8, 4352, 32]⟩
abbrev S1x4352x512 : Shape := ⟨3, ![1, 4352, 512]⟩
abbrev S1x128 : Shape := ⟨2, ![1, 128]⟩
abbrev S8x128 : Shape := ⟨2, ![8, 128]⟩
abbrev S1x1024x128 : Shape := ⟨3, ![1, 1024, 128]⟩
abbrev S1x4352x128 : Shape := ⟨3, ![1, 4352, 128]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x4096x128 : Shape := ⟨3, ![1, 4096, 128]⟩
abbrev S4096x128 : Shape := ⟨2, ![4096, 128]⟩
abbrev S256x4096 : Shape := ⟨2, ![256, 4096]⟩
abbrev S1x1 : Shape := ⟨2, ![1, 1]⟩

abbrev nBuf : Space → Nat
  | .hbm => 116
  | .vmem => 12
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S8x256x512, .f32⟩
  | .hbm, ⟨4, _⟩ => ⟨S8x256x512, .f32⟩
  | .hbm, ⟨5, _⟩ => ⟨S8x256x512, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S128, .f32⟩
  | .hbm, ⟨12, _⟩ => ⟨S64, .f32⟩
  | .hbm, ⟨13, _⟩ => ⟨S64x64, .f32⟩
  | .hbm, ⟨14, _⟩ => ⟨S4096, .f32⟩
  | .hbm, ⟨15, _⟩ => ⟨S64, .f32⟩
  | .hbm, ⟨16, _⟩ => ⟨S1x64, .f32⟩
  | .hbm, ⟨17, _⟩ => ⟨S64x64, .f32⟩
  | .hbm, ⟨18, _⟩ => ⟨S4096, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S4096x1, .f32⟩
  | .hbm, ⟨28, _⟩ => ⟨S1x16, .f32⟩
  | .hbm, ⟨29, _⟩ => ⟨S4096x16, .f32⟩
  | .hbm, ⟨30, _⟩ => ⟨S4096x16, .f32⟩
  | .hbm, ⟨31, _⟩ => ⟨S4096x16, .f32⟩
  | .hbm, ⟨32, _⟩ => ⟨S4096x1, .f32⟩
  | .hbm, ⟨33, _⟩ => ⟨S1x16, .f32⟩
  | .hbm, ⟨34, _⟩ => ⟨S4096x16, .f32⟩
  | .hbm, ⟨35, _⟩ => ⟨S4096x16, .f32⟩
  | .hbm, ⟨36, _⟩ => ⟨S4096x16, .f32⟩
  | .hbm, ⟨37, _⟩ => ⟨S4096x32, .f32⟩
  | .hbm, ⟨38, _⟩ => ⟨S4096x32, .f32⟩
  | .hbm, ⟨39, _⟩ => ⟨S4096x32, .f32⟩
  | .hbm, ⟨40, _⟩ => ⟨S4096x64, .f32⟩
  | .hbm, ⟨41, _⟩ => ⟨S1x4096x1x64, .f32⟩
  | .hbm, ⟨42, _⟩ => ⟨S1x4096x8x64, .f32⟩
  | .hbm, ⟨43, _⟩ => ⟨S4096x512, .f32⟩
  | .hbm, ⟨44, _⟩ => ⟨S4096x32, .f32⟩
  | .hbm, ⟨45, _⟩ => ⟨S4096x64, .f32⟩
  | .hbm, ⟨46, _⟩ => ⟨S1x4096x1x64, .f32⟩
  | .hbm, ⟨47, _⟩ => ⟨S1x4096x8x64, .f32⟩
  | .hbm, ⟨48, _⟩ => ⟨S4096x512, .f32⟩
  | .hbm, ⟨49, _⟩ => ⟨S_, .f32⟩
  | .hbm, ⟨50, _⟩ => ⟨S256x512, .f32⟩
  | .hbm, ⟨51, _⟩ => ⟨S4352x512, .f32⟩
  | .hbm, ⟨52, _⟩ => ⟨S_, .f32⟩
  | .hbm, ⟨53, _⟩ => ⟨S256x512, .f32⟩
  | .hbm, ⟨54, _⟩ => ⟨S4352x512, .f32⟩
  | .hbm, ⟨55, _⟩ => ⟨S1x512, .i32⟩
  | .hbm, ⟨56, _⟩ => ⟨S_, .i32⟩
  | .hbm, ⟨57, _⟩ => ⟨S1x512, .i32⟩
  | .hbm, ⟨58, _⟩ => ⟨S1x512, .i32⟩
  | .hbm, ⟨59, _⟩ => ⟨S_, .i32⟩
  | .hbm, ⟨60, _⟩ => ⟨S1x512, .i32⟩
  | .hbm, ⟨61, _⟩ => ⟨S1x512, .i1⟩
  | .hbm, ⟨62, _⟩ => ⟨S8x4352x512, .f32⟩
  | .hbm, ⟨63, _⟩ => ⟨S8x4352x512, .bf16⟩
  | .hbm, ⟨64, _⟩ => ⟨S8x4352x480, .f32⟩
  | .hbm, ⟨65, _⟩ => ⟨S8x4352x32, .f32⟩
  | .hbm, ⟨66, _⟩ => ⟨S8x4352x512, .f32⟩
  | .hbm, ⟨67, _⟩ => ⟨S8x4352x32, .f32⟩
  | .hbm, ⟨68, _⟩ => ⟨S8x4352x480, .f32⟩
  | .hbm, ⟨69, _⟩ => ⟨S8x4352x512, .f32⟩
  | .hbm, ⟨70, _⟩ => ⟨S8x4352x512, .i1⟩
  | .hbm, ⟨71, _⟩ => ⟨S8x4352x512, .f32⟩
  | .hbm, ⟨72, _⟩ => ⟨S1x4352x512, .f32⟩
  | .hbm, ⟨73, _⟩ => ⟨S8x4352x512, .f32⟩
  | .hbm, ⟨74, _⟩ => ⟨S8x4352x512, .f32⟩
  | .hbm, ⟨75, _⟩ => ⟨S1x4352x512, .f32⟩
  | .hbm, ⟨76, _⟩ => ⟨S8x4352x512, .f32⟩
  | .hbm, ⟨77, _⟩ => ⟨S8x4352x512, .f32⟩
  | .hbm, ⟨78, _⟩ => ⟨S8x4352x512, .f32⟩
  | .hbm, ⟨79, _⟩ => ⟨S8x4352x512, .bf16⟩
  | .hbm, ⟨80, _⟩ => ⟨S8x4352x512, .f32⟩
  | .hbm, ⟨81, _⟩ => ⟨S8x4352x480, .f32⟩
  | .hbm, ⟨82, _⟩ => ⟨S8x4352x32, .f32⟩
  | .hbm, ⟨83, _⟩ => ⟨S8x4352x512, .f32⟩
  | .hbm, ⟨84, _⟩ => ⟨S8x4352x32, .f32⟩
  | .hbm, ⟨85, _⟩ => ⟨S8x4352x480, .f32⟩
  | .hbm, ⟨86, _⟩ => ⟨S8x4352x512, .f32⟩
  | .hbm, ⟨87, _⟩ => ⟨S8x4352x512, .i1⟩
  | .hbm, ⟨88, _⟩ => ⟨S8x4352x512, .f32⟩
  | .hbm, ⟨89, _⟩ => ⟨S1x4352x512, .f32⟩
  | .hbm, ⟨90, _⟩ => ⟨S8x4352x512, .f32⟩
  | .hbm, ⟨91, _⟩ => ⟨S8x4352x512, .f32⟩
  | .hbm, ⟨92, _⟩ => ⟨S1x4352x512, .f32⟩
  | .hbm, ⟨93, _⟩ => ⟨S8x4352x512, .f32⟩
  | .hbm, ⟨94, _⟩ => ⟨S8x4352x512, .f32⟩
  | .hbm, ⟨95, _⟩ => ⟨S8x4352x512, .f32⟩
  | .hbm, ⟨96, _⟩ => ⟨S8x4352x512, .bf16⟩
  | .hbm, ⟨97, _⟩ => ⟨S8x4352x512, .f32⟩
  | .hbm, ⟨98, _⟩ => ⟨S8x4352x512, .bf16⟩
  | .hbm, ⟨99, _⟩ => ⟨S64, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S64, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S128, .f32⟩
  | .hbm, ⟨112, _⟩ => ⟨S128, .f32⟩
  | .hbm, ⟨113, _⟩ => ⟨S1x128, .f32⟩
  | .hbm, ⟨114, _⟩ => ⟨S8x128, .f32⟩
  | .hbm, ⟨115, _⟩ => ⟨S8x4096x512, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x4352x128, .bf16⟩
  | .local _ .vmem, ⟨5, _⟩ => ⟨S1x4352x128, .bf16⟩
  | .local _ .vmem, ⟨6, _⟩ => ⟨S1x4352x128, .bf16⟩
  | .local _ .vmem, ⟨7, _⟩ => ⟨S1x4352x128, .bf16⟩
  | .local _ .vmem, ⟨8, _⟩ => ⟨S1x128, .f32⟩
  | .local _ .vmem, ⟨9, _⟩ => ⟨S8x128, .f32⟩
  | .local _ .vmem, ⟨10, _⟩ => ⟨S1x1024x128, .bf16⟩
  | .local _ .vmem, ⟨11, _⟩ => ⟨S1x1024x128, .bf16⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_1 : Ref sig .tc := ⟨.hbm, 49, rfl⟩
abbrev main_v35 : Ref sig .tc := ⟨.hbm, 50, rfl⟩
abbrev main_v36 : Ref sig .tc := ⟨.hbm, 51, rfl⟩
abbrev main_cst_2 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c : Ref sig .tc := ⟨.hbm, 56, rfl⟩
abbrev main_v40 : Ref sig .tc := ⟨.hbm, 57, rfl⟩
abbrev main_v41 : Ref sig .tc := ⟨.hbm, 58, rfl⟩
abbrev main_c_3 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_v0 : Ref sig .tc := ⟨.hbm, 64, rfl⟩
abbrev main_call0_v1 : Ref sig .tc := ⟨.hbm, 65, rfl⟩
abbrev main_v46 : Ref sig .tc := ⟨.hbm, 66, rfl⟩
abbrev main_call1_v0 : Ref sig .tc := ⟨.hbm, 67, rfl⟩
abbrev main_call1_v1 : Ref sig .tc := ⟨.hbm, 68, rfl⟩
abbrev main_v47 : Ref sig .tc := ⟨.hbm, 69, rfl⟩
abbrev main_call2_v0 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call3_v0 : Ref sig .tc := ⟨.hbm, 81, rfl⟩
abbrev main_call3_v1 : Ref sig .tc := ⟨.hbm, 82, rfl⟩
abbrev main_v58 : Ref sig .tc := ⟨.hbm, 83, rfl⟩
abbrev main_call4_v0 : Ref sig .tc := ⟨.hbm, 84, rfl⟩
abbrev main_call4_v1 : Ref sig .tc := ⟨.hbm, 85, rfl⟩
abbrev main_v59 : Ref sig .tc := ⟨.hbm, 86, rfl⟩
abbrev main_call5_v0 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_4 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_5 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_6 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4352x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "q_scale" => some (((Real.sqrt 64)⁻¹ * (Real.log 2)⁻¹ : ℝ) : EReal)
  | _ => none
-- ==== ReferenceIdeal.lean ====
abbrev S8x4096x512 : Shape := ⟨3, ![8, 4096, 512]⟩
abbrev S8x256x512 : Shape := ⟨3, ![8, 256, 512]⟩
abbrev S64 : Shape := ⟨1, ![64]⟩
abbrev S_ : Shape := ⟨0, ![]⟩
abbrev S128 : Shape := ⟨1, ![128]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S8x4096x4x2x64 : Shape := ⟨5, ![8, 4096, 4, 2, 64]⟩
abbrev S8x4x2x4096x64 : Shape := ⟨5, ![8, 4, 2, 4096, 64]⟩
abbrev S8x4x2x4096x32 : Shape := ⟨5, ![8, 4, 2, 4096, 32]⟩
abbrev S1x1x1x4096x32 : Shape := ⟨5, ![1, 1, 1, 4096, 32]⟩
abbrev S8x256x4x2x64 : Shape := ⟨5, ![8, 256, 4, 2, 64]⟩
abbrev S8x4x2x256x64 : Shape := ⟨5, ![8, 4, 2, 256, 64]⟩
abbrev S8x256x4x128 : Shape := ⟨4, ![8, 256, 4, 128]⟩
abbrev S8x4x256x128 : Shape := ⟨4, ![8, 4, 256, 128]⟩
abbrev S8x4096x4x128 : Shape := ⟨4, ![8, 4096, 4, 128]⟩
abbrev S8x4x4096x128 : Shape := ⟨4, ![8, 4, 4096, 128]⟩
abbrev S8x4x4352x128 : Shape := ⟨4, ![8, 4, 4352, 128]⟩
abbrev S8x4x2x4096x256 : Shape := ⟨5, ![8, 4, 2, 4096, 256]⟩
abbrev S8x4x2x4096x4096 : Shape := ⟨5, ![8, 4, 2, 4096, 4096]⟩
abbrev S8x4x2x4096x4352 : Shape := ⟨5, ![8, 4, 2, 4096, 4352]⟩
abbrev S8x4x2x4096 : Shape := ⟨4, ![8, 4, 2, 4096]⟩
abbrev S8x4x2x4096x1 : Shape := ⟨5, ![8, 4, 2, 4096, 1]⟩
abbrev S8x4x1x4096x4352 : Shape := ⟨5, ![8, 4, 1, 4096, 4352]⟩
abbrev S8x4x4096x4352 : Shape := ⟨4, ![8, 4, 4096, 4352]⟩
abbrev S8x4x4096 : Shape := ⟨3, ![8, 4, 4096]⟩
abbrev S8x4x4096x1 : Shape := ⟨4, ![8, 4, 4096, 1]⟩
abbrev S1x1x1x128 : Shape := ⟨4, ![1, 1, 1, 128]⟩

abbrev nBuf : Space → Nat
  | .hbm => 146
  | .vmem => 0
  | .smem => 0
  | _ => 0

abbrev hbmTy0_0 (i : Nat) : BufTy := match i % 128 with
  | 0 => ⟨S8x4096x512, .f32⟩
  | 1 => ⟨S8x4096x512, .f32⟩
  | 2 => ⟨S8x4096x512, .f32⟩
  | 3 => ⟨S8x256x512, .f32⟩
  | 4 => ⟨S8x256x512, .f32⟩
  | 5 => ⟨S8x256x512, .f32⟩
  | 6 => ⟨S64, .f32⟩
  | 7 => ⟨S64, .f32⟩
  | 8 => ⟨S64, .f32⟩
  | 9 => ⟨S64, .f32⟩
  | 10 => ⟨S_, .f32⟩
  | 11 => ⟨S128, .f32⟩
  | 12 => ⟨S64, .f32⟩
  | 13 => ⟨S64x64, .f32⟩
  | 14 => ⟨S4096, .f32⟩
  | 15 => ⟨S64, .f32⟩
  | 16 => ⟨S1x64, .f32⟩
  | 17 => ⟨S64x64, .f32⟩
  | 18 => ⟨S4096, .f32⟩
  | 19 => ⟨S16, .f32⟩
  | 20 => ⟨S16, .f32⟩
  | 21 => ⟨S_, .f32⟩
  | 22 => ⟨S16, .f32⟩
  | 23 => ⟨S16, .f32⟩
  | 24 => ⟨S_, .f32⟩
  | 25 => ⟨S16, .f32⟩
  | 26 => ⟨S16, .f32⟩
  | 27 => ⟨S4096x1, .f32⟩
  | 28 => ⟨S1x16, .f32⟩
  | 29 => ⟨S4096x16, .f32⟩
  | 30 => ⟨S4096x16, .f32⟩
  | 31 => ⟨S4096x16, .f32⟩
  | 32 => ⟨S4096x1, .f32⟩
  | 33 => ⟨S1x16, .f32⟩
  | 34 => ⟨S4096x16, .f32⟩
  | 35 => ⟨S4096x16, .f32⟩
  | 36 => ⟨S4096x16, .f32⟩
  | 37 => ⟨S4096x32, .f32⟩
  | 38 => ⟨S4096x32, .f32⟩
  | 39 => ⟨S4096x32, .f32⟩
  | 40 => ⟨S64, .f32⟩
  | 41 => ⟨S_, .f32⟩
  | 42 => ⟨S_, .f32⟩
  | 43 => ⟨S_, .f32⟩
  | 44 => ⟨S64, .f32⟩
  | 45 => ⟨S_, .f32⟩
  | 46 => ⟨S_, .f32⟩
  | 47 => ⟨S_, .f32⟩
  | 48 => ⟨S_, .f32⟩
  | 49 => ⟨S_, .f32⟩
  | 50 => ⟨S8x4096x4x2x64, .f32⟩
  | 51 => ⟨S8x4x2x4096x64, .f32⟩
  | 52 => ⟨S8x4x2x4096x32, .f32⟩
  | 53 => ⟨S8x4x2x4096x32, .f32⟩
  | 54 => ⟨S1x1x1x4096x32, .f32⟩
  | 55 => ⟨S8x4x2x4096x32, .f32⟩
  | 56 => ⟨S8x4x2x4096x32, .f32⟩
  | 57 => ⟨S1x1x1x4096x32, .f32⟩
  | 58 => ⟨S8x4x2x4096x32, .f32⟩
  | 59 => ⟨S8x4x2x4096x32, .f32⟩
  | 60 => ⟨S8x4x2x4096x32, .f32⟩
  | 61 => ⟨S1x1x1x4096x32, .f32⟩
  | 62 => ⟨S8x4x2x4096x32, .f32⟩
  | 63 => ⟨S8x4x2x4096x32, .f32⟩
  | 64 => ⟨S1x1x1x4096x32, .f32⟩
  | 65 => ⟨S8x4x2x4096x32, .f32⟩
  | 66 => ⟨S8x4x2x4096x32, .f32⟩
  | 67 => ⟨S8x4x2x4096x32, .f32⟩
  | 68 => ⟨S8x4x2x4096x64, .f32⟩
  | 69 => ⟨S8x4096x4x2x64, .f32⟩
  | 70 => ⟨S8x4x2x4096x64, .f32⟩
  | 71 => ⟨S8x4x2x4096x32, .f32⟩
  | 72 => ⟨S8x4x2x4096x32, .f32⟩
  | 73 => ⟨S1x1x1x4096x32, .f32⟩
  | 74 => ⟨S8x4x2x4096x32, .f32⟩
  | 75 => ⟨S8x4x2x4096x32, .f32⟩
  | 76 => ⟨S1x1x1x4096x32, .f32⟩
  | 77 => ⟨S8x4x2x4096x32, .f32⟩
  | 78 => ⟨S8x4x2x4096x32, .f32⟩
  | 79 => ⟨S8x4x2x4096x32, .f32⟩
  | 80 => ⟨S1x1x1x4096x32, .f32⟩
  | 81 => ⟨S8x4x2x4096x32, .f32⟩
  | 82 => ⟨S8x4x2x4096x32, .f32⟩
  | 83 => ⟨S1x1x1x4096x32, .f32⟩
  | 84 => ⟨S8x4x2x4096x32, .f32⟩
  | 85 => ⟨S8x4x2x4096x32, .f32⟩
  | 86 => ⟨S8x4x2x4096x32, .f32⟩
  | 87 => ⟨S8x4x2x4096x64, .f32⟩
  | 88 => ⟨S8x256x4x2x64, .f32⟩
  | 89 => ⟨S8x4x2x256x64, .f32⟩
  | 90 => ⟨S8x256x4x128, .f32⟩
  | 91 => ⟨S8x4x256x128, .f32⟩
  | 92 => ⟨S8x4096x4x128, .f32⟩
  | 93 => ⟨S8x4x4096x128, .f32⟩
  | 94 => ⟨S8x4x4352x128, .f32⟩
  | 95 => ⟨S8x4x2x4096x256, .f32⟩
  | 96 => ⟨S8x4x2x4096x4096, .f32⟩
  | 97 => ⟨S8x4x2x4096x4352, .f32⟩
  | 98 => ⟨S_, .f32⟩
  | 99 => ⟨S8x4x2x4096x4352, .f32⟩
  | 100 => ⟨S8x4x2x4096x4352, .f32⟩
  | 101 => ⟨S_, .f32⟩
  | 102 => ⟨S8x4x2x4096, .f32⟩
  | 103 => ⟨S_, .f32⟩
  | 104 => ⟨S8x4x2x4096, .f32⟩
  | 105 => ⟨S8x4x2x4096, .f32⟩
  | 106 => ⟨S8x4x2x4096x1, .f32⟩
  | 107 => ⟨S8x4x2x4096x4352, .f32⟩
  | 108 => ⟨S8x4x2x4096x4352, .f32⟩
  | 109 => ⟨S8x4x2x4096x4352, .f32⟩
  | 110 => ⟨S_, .f32⟩
  | 111 => ⟨S8x4x2x4096, .f32⟩
  | 112 => ⟨S8x4x2x4096x1, .f32⟩
  | 113 => ⟨S8x4x2x4096x4352, .f32⟩
  | 114 => ⟨S8x4x2x4096x4352, .f32⟩
  | 115 => ⟨S8x4x1x4096x4352, .f32⟩
  | 116 => ⟨S8x4x4096x4352, .f32⟩
  | 117 => ⟨S8x4x1x4096x4352, .f32⟩
  | 118 => ⟨S8x4x4096x4352, .f32⟩
  | 119 => ⟨S8x4x4096x4352, .f32⟩
  | 120 => ⟨S8x4x4096x4352, .f32⟩
  | 121 => ⟨S8x4x4096x4352, .f32⟩
  | 122 => ⟨S8x4x4096x128, .f32⟩
  | 123 => ⟨S8x4x4096x128, .f32⟩
  | 124 => ⟨S_, .f32⟩
  | 125 => ⟨S8x4x4096, .f32⟩
  | 126 => ⟨S8x4x4096x1, .f32⟩
  | 127 => ⟨S_, .f32⟩
  | _ => ⟨S8x4096x512, .f32⟩

abbrev hbmTy0_1 (i : Nat) : BufTy := match i % 128 with
  | 0 => ⟨S8x4x4096x1, .f32⟩
  | 1 => ⟨S8x4x4096x1, .f32⟩
  | 2 => ⟨S_, .f32⟩
  | 3 => ⟨S8x4x4096x1, .f32⟩
  | 4 => ⟨S8x4x4096x1, .f32⟩
  | 5 => ⟨S8x4x4096x1, .f32⟩
  | 6 => ⟨S8x4x4096x128, .f32⟩
  | 7 => ⟨S8x4x4096x128, .f32⟩
  | 8 => ⟨S1x1x1x128, .f32⟩
  | 9 => ⟨S8x4x4096x128, .f32⟩
  | 10 => ⟨S8x4x4096x128, .f32⟩
  | 11 => ⟨S_, .f32⟩
  | 12 => ⟨S_, .f32⟩
  | 13 => ⟨S8x4x4096x128, .f32⟩
  | 14 => ⟨S8x4x4096x128, .f32⟩
  | 15 => ⟨S8x4096x4x128, .f32⟩
  | 16 => ⟨S8x4096x512, .f32⟩
  | 17 => ⟨S8x4096x512, .bf16⟩
  | _ => ⟨S8x4096x512, .f32⟩

abbrev hbmTy (i : Nat) : BufTy := match i / 128 with
  | 0 => hbmTy0_0 i
  | 1 => hbmTy0_1 i
  | _ => ⟨S8x4096x512, .f32⟩

abbrev bufTy : (tb : Table) → Fin (tcTables nBuf tb) → BufTy
  | .hbm, ⟨i, _⟩ => hbmTy i
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_1 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_2 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_cst_3 : Ref sig .tc := ⟨.hbm, 98, rfl⟩
abbrev main_v82 : Ref sig .tc := ⟨.hbm, 99, rfl⟩
abbrev main_v83 : Ref sig .tc := ⟨.hbm, 100, rfl⟩
abbrev main_cst_4 : Ref sig .tc := ⟨.hbm, 101, rfl⟩
abbrev main_v84 : Ref sig .tc := ⟨.hbm, 102, rfl⟩
abbrev main_cst_5 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_cst_6 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_cst_7 : Ref sig .tc := ⟨.hbm, 124, rfl⟩
abbrev main_v104 : Ref sig .tc := ⟨.hbm, 125, rfl⟩
abbrev main_v105 : Ref sig .tc := ⟨.hbm, 126, rfl⟩
abbrev main_cst_8 : Ref sig .tc := ⟨.hbm, 127, rfl⟩
abbrev main_v106 : Ref sig .tc := ⟨.hbm, 128, rfl⟩
abbrev main_v107 : Ref sig .tc := ⟨.hbm, 129, rfl⟩
abbrev main_cst_9 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_cst_10 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x256x1024 : Shape := ⟨3, ![8, 256, 1024]⟩
abbrev S8x6144 : Shape := ⟨2, ![8, 6144]⟩
abbrev S6144 : Shape := ⟨1, ![6144]⟩
abbrev S1024 : Shape := ⟨1, ![1024]⟩
abbrev S1024x2560 : Shape := ⟨2, ![1024, 2560]⟩
abbrev S3x768 : Shape := ⟨2, ![3, 768]⟩
abbrev S768 : Shape := ⟨1, ![768]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4096x64 : Shape := ⟨2, ![4096, 64]⟩
abbrev S1x4096x1x64 : Shape := ⟨4, ![1, 4096, 1, 64]⟩
abbrev S1x4096x8x64 : Shape := ⟨4, ![1, 4096, 8, 64]⟩
abbrev S4096x512 : Shape := ⟨2, ![4096, 512]⟩
abbrev S256x512 : Shape := ⟨2, ![256, 512]⟩
abbrev S4352x512 : Shape := ⟨2, ![4352, 512]⟩
abbrev S1x6144 : Shape := ⟨2, ![1, 6144]⟩
abbrev S8x1x6144 : Shape := ⟨3, ![8, 1, 6144]⟩
abbrev S8x2x6144 : Shape := ⟨3, ![8, 2, 6144]⟩
abbrev S16x1x6144 : Shape := ⟨3, ![16, 1, 6144]⟩
abbrev S8x4352x1024 : Shape := ⟨3, ![8, 4352, 1024]⟩
abbrev S1x1024 : Shape := ⟨2, ![1, 1024]⟩
abbrev S1x768 : Shape := ⟨2, ![1, 768]⟩
abbrev S8x4352x256 : Shape := ⟨3, ![8, 4352, 256]⟩
abbrev S4352x2048 : Shape := ⟨2, ![4352, 2048]⟩
abbrev S8x4352x512 : Shape := ⟨3, ![8, 4352, 512]⟩
abbrev S1x256x1024 : Shape := ⟨3, ![1, 256, 1024]⟩
abbrev S1x8x1024 : Shape := ⟨3, ![1, 8, 1024]⟩
abbrev S1x1x6144 : Shape := ⟨3, ![1, 1, 6144]⟩
abbrev S1x256x256 : Shape := ⟨3, ![1, 256, 256]⟩
abbrev S256x256 : Shape := ⟨2, ![256, 256]⟩
abbrev S1x256x512 : Shape := ⟨3, ![1, 256, 512]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩
abbrev S8x1024 : Shape := ⟨2, ![8, 1024]⟩
abbrev S8 : Shape := ⟨1, ![8]⟩
abbrev S8x1 : Shape := ⟨2, ![8, 1]⟩
abbrev S272x1024 : Shape := ⟨2, ![272, 1024]⟩
abbrev S272x2560 : Shape := ⟨2, ![272, 2560]⟩
abbrev S256x768 : Shape := ⟨2, ![256, 768]⟩
abbrev S1x512 : Shape := ⟨2, ![1, 512]⟩

abbrev nBuf : Space → Nat
  | .hbm => 68
  | .vmem => 30
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S8x6144, .f32⟩
  | .hbm, ⟨3, _⟩ => ⟨S6144, .f32⟩
  | .hbm, ⟨4, _⟩ => ⟨S1024, .f32⟩
  | .hbm, ⟨5, _⟩ => ⟨S1024x2560, .f32⟩
  | .hbm, ⟨6, _⟩ => ⟨S3x768, .f32⟩
  | .hbm, ⟨7, _⟩ => ⟨S768, .f32⟩
  | .hbm, ⟨8, _⟩ => ⟨S64, .f32⟩
  | .hbm, ⟨9, _⟩ => ⟨S64x64, .f32⟩
  | .hbm, ⟨10, _⟩ => ⟨S4096, .f32⟩
  | .hbm, ⟨11, _⟩ => ⟨S64, .f32⟩
  | .hbm, ⟨12, _⟩ => ⟨S1x64, .f32⟩
  | .hbm, ⟨13, _⟩ => ⟨S64x64, .f32⟩
  | .hbm, ⟨14, _⟩ => ⟨S4096, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S4096x1, .f32⟩
  | .hbm, ⟨24, _⟩ => ⟨S1x16, .f32⟩
  | .hbm, ⟨25, _⟩ => ⟨S4096x16, .f32⟩
  | .hbm, ⟨26, _⟩ => ⟨S4096x16, .f32⟩
  | .hbm, ⟨27, _⟩ => ⟨S4096x16, .f32⟩
  | .hbm, ⟨28, _⟩ => ⟨S4096x1, .f32⟩
  | .hbm, ⟨29, _⟩ => ⟨S1x16, .f32⟩
  | .hbm, ⟨30, _⟩ => ⟨S4096x16, .f32⟩
  | .hbm, ⟨31, _⟩ => ⟨S4096x16, .f32⟩
  | .hbm, ⟨32, _⟩ => ⟨S4096x16, .f32⟩
  | .hbm, ⟨33, _⟩ => ⟨S4096x32, .f32⟩
  | .hbm, ⟨34, _⟩ => ⟨S4096x32, .f32⟩
  | .hbm, ⟨35, _⟩ => ⟨S4096x32, .f32⟩
  | .hbm, ⟨36, _⟩ => ⟨S4096x64, .f32⟩
  | .hbm, ⟨37, _⟩ => ⟨S1x4096x1x64, .f32⟩
  | .hbm, ⟨38, _⟩ => ⟨S1x4096x8x64, .f32⟩
  | .hbm, ⟨39, _⟩ => ⟨S4096x512, .f32⟩
  | .hbm, ⟨40, _⟩ => ⟨S4096x32, .f32⟩
  | .hbm, ⟨41, _⟩ => ⟨S4096x64, .f32⟩
  | .hbm, ⟨42, _⟩ => ⟨S1x4096x1x64, .f32⟩
  | .hbm, ⟨43, _⟩ => ⟨S1x4096x8x64, .f32⟩
  | .hbm, ⟨44, _⟩ => ⟨S4096x512, .f32⟩
  | .hbm, ⟨45, _⟩ => ⟨S_, .f32⟩
  | .hbm, ⟨46, _⟩ => ⟨S256x512, .f32⟩
  | .hbm, ⟨47, _⟩ => ⟨S4352x512, .f32⟩
  | .hbm, ⟨48, _⟩ => ⟨S_, .f32⟩
  | .hbm, ⟨49, _⟩ => ⟨S256x512, .f32⟩
  | .hbm, ⟨50, _⟩ => ⟨S4352x512, .f32⟩
  | .hbm, ⟨51, _⟩ => ⟨S1x6144, .f32⟩
  | .hbm, ⟨52, _⟩ => ⟨S8x6144, .f32⟩
  | .hbm, ⟨53, _⟩ => ⟨S8x1x6144, .f32⟩
  | .hbm, ⟨54, _⟩ => ⟨S8x1x6144, .f32⟩
  | .hbm, ⟨55, _⟩ => ⟨S8x2x6144, .f32⟩
  | .hbm, ⟨56, _⟩ => ⟨S16x1x6144, .f32⟩
  | .hbm, ⟨57, _⟩ => ⟨S8x4352x1024, .f32⟩
  | .hbm, ⟨58, _⟩ => ⟨S1024x2560, .bf16⟩
  | .hbm, ⟨59, _⟩ => ⟨S1x1024, .f32⟩
  | .hbm, ⟨60, _⟩ => ⟨S1x768, .f32⟩
  | .hbm, ⟨61, _⟩ => ⟨S8x4352x256, .bf16⟩
  | .hbm, ⟨62, _⟩ => ⟨S8x4352x256, .f32⟩
  | .hbm, ⟨63, _⟩ => ⟨S4352x2048, .f32⟩
  | .hbm, ⟨64, _⟩ => ⟨S8x4352x512, .bf16⟩
  | .hbm, ⟨65, _⟩ => ⟨S8x4352x512, .bf16⟩
  | .hbm, ⟨66, _⟩ => ⟨S8x4352x512, .bf16⟩
  | .hbm, ⟨67, _⟩ => ⟨S8x4352x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x6144, .f32⟩
  | .local _ .vmem, ⟨7, _⟩ => ⟨S1x1x6144, .f32⟩
  | .local _ .vmem, ⟨8, _⟩ => ⟨S1x1024, .f32⟩
  | .local _ .vmem, ⟨9, _⟩ => ⟨S1024x2560, .bf16⟩
  | .local _ .vmem, ⟨10, _⟩ => ⟨S3x768, .f32⟩
  | .local _ .vmem, ⟨11, _⟩ => ⟨S1x768, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S1x256x256, .bf16⟩
  | .local _ .vmem, ⟨17, _⟩ => ⟨S1x256x256, .bf16⟩
  | .local _ .vmem, ⟨18, _⟩ => ⟨S1x256x256, .f32⟩
  | .local _ .vmem, ⟨19, _⟩ => ⟨S1x256x256, .f32⟩
  | .local _ .vmem, ⟨20, _⟩ => ⟨S256x256, .f32⟩
  | .local _ .vmem, ⟨21, _⟩ => ⟨S256x256, .f32⟩
  | .local _ .vmem, ⟨22, _⟩ => ⟨S1x256x512, .bf16⟩
  | .local _ .vmem, ⟨23, _⟩ => ⟨S1x256x512, .bf16⟩
  | .local _ .vmem, ⟨24, _⟩ => ⟨S1x256x512, .bf16⟩
  | .local _ .vmem, ⟨25, _⟩ => ⟨S1x256x512, .bf16⟩
  | .local _ .vmem, ⟨26, _⟩ => ⟨S1x256x512, .bf16⟩
  | .local _ .vmem, ⟨27, _⟩ => ⟨S1x256x512, .bf16⟩
  | .local _ .vmem, ⟨28, _⟩ => ⟨S1x256x512, .bf16⟩
  | .local _ .vmem, ⟨29, _⟩ => ⟨S1x256x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_1 : Ref sig .tc := ⟨.hbm, 45, rfl⟩
abbrev main_v35 : Ref sig .tc := ⟨.hbm, 46, rfl⟩
abbrev main_v36 : Ref sig .tc := ⟨.hbm, 47, rfl⟩
abbrev main_cst_2 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49_0 : Ref sig .tc := ⟨.hbm, 61, rfl⟩
abbrev main_v49_1 : Ref sig .tc := ⟨.hbm, 62, rfl⟩
abbrev main_v49_2 : Ref sig .tc := ⟨.hbm, 63, rfl⟩
abbrev main_v49_3 : Ref sig .tc := ⟨.hbm, 64, rfl⟩
abbrev main_v49_4 : Ref sig .tc := ⟨.hbm, 65, rfl⟩
abbrev main_v49_5 : Ref sig .tc := ⟨.hbm, 66, rfl⟩
abbrev main_v49_6 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c543_i32 : BitVec 32 := 543#32
  let v2 : BitVec 32 := Scalar.minsi v1 c543_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c16_i32 : BitVec 32 := 16#32
  let v1 : BitVec 1 := Scalar.cmpi .sge arg1 c16_i32
  let c1_i32 : BitVec 32 := 1#32
  let c0_i32 : BitVec 32 := 0#32
  let v2 : BitVec 32 := Scalar.select v1 c1_i32 c0_i32
  let v3 : BitVec 32 := Scalar.addi v0 v2
  let c0_i32_0 : BitVec 32 := 0#32
  let c0_i32_1 : BitVec 32 := 0#32
  let c0_i32_2 : BitVec 32 := 0#32
  ![v3.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference2Ideal.lean ====
abbrev S8x4096x1024 : Shape := ⟨3, ![8, 4096, 1024]⟩
abbrev S8x256x1024 : Shape := ⟨3, ![8, 256, 1024]⟩
abbrev S8x6144 : Shape := ⟨2, ![8, 6144]⟩
abbrev S6144 : Shape := ⟨1, ![6144]⟩
abbrev S1024 : Shape := ⟨1, ![1024]⟩
abbrev S1024x2560 : Shape := ⟨2, ![1024, 2560]⟩
abbrev S3x768 : Shape := ⟨2, ![3, 768]⟩
abbrev S768 : Shape := ⟨1, ![768]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S8x1x6144 : Shape := ⟨3, ![8, 1, 6144]⟩
abbrev S8x1x1024 : Shape := ⟨3, ![8, 1, 1024]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2560 : Shape := ⟨3, ![8, 4096, 2560]⟩
abbrev S8x256 : Shape := ⟨2, ![8, 256]⟩
abbrev S8x256x1 : Shape := ⟨3, ![8, 256, 1]⟩
abbrev S8x256x2560 : Shape := ⟨3, ![8, 256, 2560]⟩
abbrev S8x4096x768 : Shape := ⟨3, ![8, 4096, 768]⟩
abbrev S8x4096x256 : Shape := ⟨3, ![8, 4096, 256]⟩
abbrev S8x4096x512 : Shape := ⟨3, ![8, 4096, 512]⟩
abbrev S8x256x768 : Shape := ⟨3, ![8, 256, 768]⟩
abbrev S8x256x256 : Shape := ⟨3, ![8, 256, 256]⟩
abbrev S8x256x512 : Shape := ⟨3, ![8, 256, 512]⟩
abbrev S8x4098x768 : Shape := ⟨3, ![8, 4098, 768]⟩
abbrev S1x768 : Shape := ⟨2, ![1, 768]⟩
abbrev S1x1x768 : Shape := ⟨3, ![1, 1, 768]⟩
abbrev S8x258x768 : Shape := ⟨3, ![8, 258, 768]⟩
abbrev S8x4352x256 : Shape := ⟨3, ![8, 4352, 256]⟩
abbrev S4352x8x256 : Shape := ⟨3, ![4352, 8, 256]⟩
abbrev S4352x2048 : Shape := ⟨2, ![4352, 2048]⟩
abbrev S8x4352x512 : Shape := ⟨3, ![8, 4352, 512]⟩
abbrev S8x4096x4x2x64 : Shape := ⟨5, ![8, 4096, 4, 2, 64]⟩
abbrev S8x4x2x4096x64 : Shape := ⟨5, ![8, 4, 2, 4096, 64]⟩
abbrev S8x4x2x4096x32 : Shape := ⟨5, ![8, 4, 2, 4096, 32]⟩
abbrev S1x1x1x4096x32 : Shape := ⟨5, ![1, 1, 1, 4096, 32]⟩

abbrev nBuf : Space → Nat
  | .hbm => 225
  | .vmem => 0
  | .smem => 0
  | _ => 0

abbrev hbmTy0_0 (i : Nat) : BufTy := match i % 128 with
  | 0 => ⟨S8x4096x1024, .f32⟩
  | 1 => ⟨S8x256x1024, .f32⟩
  | 2 => ⟨S8x6144, .f32⟩
  | 3 => ⟨S6144, .f32⟩
  | 4 => ⟨S1024, .f32⟩
  | 5 => ⟨S1024x2560, .f32⟩
  | 6 => ⟨S3x768, .f32⟩
  | 7 => ⟨S768, .f32⟩
  | 8 => ⟨S64, .f32⟩
  | 9 => ⟨S64x64, .f32⟩
  | 10 => ⟨S4096, .f32⟩
  | 11 => ⟨S64, .f32⟩
  | 12 => ⟨S1x64, .f32⟩
  | 13 => ⟨S64x64, .f32⟩
  | 14 => ⟨S4096, .f32⟩
  | 15 => ⟨S16, .f32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | 23 => ⟨S4096x1, .f32⟩
  | 24 => ⟨S1x16, .f32⟩
  | 25 => ⟨S4096x16, .f32⟩
  | 26 => ⟨S4096x16, .f32⟩
  | 27 => ⟨S4096x16, .f32⟩
  | 28 => ⟨S4096x1, .f32⟩
  | 29 => ⟨S1x16, .f32⟩
  | 30 => ⟨S4096x16, .f32⟩
  | 31 => ⟨S4096x16, .f32⟩
  | 32 => ⟨S4096x16, .f32⟩
  | 33 => ⟨S4096x32, .f32⟩
  | 34 => ⟨S4096x32, .f32⟩
  | 35 => ⟨S4096x32, .f32⟩
  | 36 => ⟨S8x1x6144, .f32⟩
  | 37 => ⟨S8x1x1024, .f32⟩
  | 38 => ⟨S8x1x1024, .f32⟩
  | 39 => ⟨S8x1x1024, .f32⟩
  | 40 => ⟨S8x1x1024, .f32⟩
  | 41 => ⟨S8x1x1024, .f32⟩
  | 42 => ⟨S8x1x1024, .f32⟩
  | 43 => ⟨S1024, .f32⟩
  | 44 => ⟨S1024, .f32⟩
  | 45 => ⟨S1024, .f32⟩
  | 46 => ⟨S1024, .f32⟩
  | 47 => ⟨S1024, .f32⟩
  | 48 => ⟨S1024, .f32⟩
  | 49 => ⟨S8x4096x1024, .f32⟩
  | 50 => ⟨S_, .f32⟩
  | 51 => ⟨S8x4096, .f32⟩
  | 52 => ⟨S8x4096x1, .f32⟩
  | 53 => ⟨S_, .f32⟩
  | 54 => ⟨S8x4096x1, .f32⟩
  | 55 => ⟨S8x4096x1, .f32⟩
  | 56 => ⟨S_, .f32⟩
  | 57 => ⟨S8x4096x1, .f32⟩
  | 58 => ⟨S8x4096x1, .f32⟩
  | 59 => ⟨S8x4096x1, .f32⟩
  | 60 => ⟨S8x4096x1024, .f32⟩
  | 61 => ⟨S8x4096x1024, .f32⟩
  | 62 => ⟨S1x1x1024, .f32⟩
  | 63 => ⟨S8x4096x1024, .f32⟩
  | 64 => ⟨S8x4096x1024, .f32⟩
  | 65 => ⟨S_, .f32⟩
  | 66 => ⟨S8x1x1024, .f32⟩
  | 67 => ⟨S8x1x1024, .f32⟩
  | 68 => ⟨S8x4096x1024, .f32⟩
  | 69 => ⟨S8x4096x1024, .f32⟩
  | 70 => ⟨S8x4096x1024, .f32⟩
  | 71 => ⟨S8x4096x1024, .f32⟩
  | 72 => ⟨S8x4096x2560, .f32⟩
  | 73 => ⟨S8x256x1024, .f32⟩
  | 74 => ⟨S_, .f32⟩
  | 75 => ⟨S8x256, .f32⟩
  | 76 => ⟨S8x256x1, .f32⟩
  | 77 => ⟨S_, .f32⟩
  | 78 => ⟨S8x256x1, .f32⟩
  | 79 => ⟨S8x256x1, .f32⟩
  | 80 => ⟨S_, .f32⟩
  | 81 => ⟨S8x256x1, .f32⟩
  | 82 => ⟨S8x256x1, .f32⟩
  | 83 => ⟨S8x256x1, .f32⟩
  | 84 => ⟨S8x256x1024, .f32⟩
  | 85 => ⟨S8x256x1024, .f32⟩
  | 86 => ⟨S1x1x1024, .f32⟩
  | 87 => ⟨S8x256x1024, .f32⟩
  | 88 => ⟨S8x256x1024, .f32⟩
  | 89 => ⟨S_, .f32⟩
  | 90 => ⟨S1024, .f32⟩
  | 91 => ⟨S1024, .f32⟩
  | 92 => ⟨S1x1x1024, .f32⟩
  | 93 => ⟨S8x256x1024, .f32⟩
  | 94 => ⟨S8x256x1024, .f32⟩
  | 95 => ⟨S1x1x1024, .f32⟩
  | 96 => ⟨S8x256x1024, .f32⟩
  | 97 => ⟨S8x256x1024, .f32⟩
  | 98 => ⟨S8x256x2560, .f32⟩
  | 99 => ⟨S8x4096x768, .f32⟩
  | 100 => ⟨S8x4096x256, .f32⟩
  | 101 => ⟨S8x4096x512, .f32⟩
  | 102 => ⟨S8x4096x512, .f32⟩
  | 103 => ⟨S8x4096x512, .f32⟩
  | 104 => ⟨S8x256x768, .f32⟩
  | 105 => ⟨S8x256x256, .f32⟩
  | 106 => ⟨S8x256x512, .f32⟩
  | 107 => ⟨S8x256x512, .f32⟩
  | 108 => ⟨S8x256x512, .f32⟩
  | 109 => ⟨S_, .i32⟩
  | 110 => ⟨S_, .f32⟩
  | 111 => ⟨S8x4098x768, .f32⟩
  | 112 => ⟨S8x4096x768, .f32⟩
  | 113 => ⟨S1x768, .f32⟩
  | 114 => ⟨S768, .f32⟩
  | 115 => ⟨S1x1x768, .f32⟩
  | 116 => ⟨S8x4096x768, .f32⟩
  | 117 => ⟨S8x4096x768, .f32⟩
  | 118 => ⟨S8x4096x768, .f32⟩
  | 119 => ⟨S1x768, .f32⟩
  | 120 => ⟨S768, .f32⟩
  | 121 => ⟨S1x1x768, .f32⟩
  | 122 => ⟨S8x4096x768, .f32⟩
  | 123 => ⟨S8x4096x768, .f32⟩
  | 124 => ⟨S8x4096x768, .f32⟩
  | 125 => ⟨S8x4096x768, .f32⟩
  | 126 => ⟨S1x768, .f32⟩
  | 127 => ⟨S768, .f32⟩
  | _ => ⟨S8x4096x1024, .f32⟩

abbrev hbmTy0_1 (i : Nat) : BufTy := match i % 128 with
  | 0 => ⟨S1x1x768, .f32⟩
  | 1 => ⟨S8x4096x768, .f32⟩
  | 2 => ⟨S8x4096x768, .f32⟩
  | 3 => ⟨S8x4096x768, .f32⟩
  | 4 => ⟨S1x1x768, .f32⟩
  | 5 => ⟨S8x4096x768, .f32⟩
  | 6 => ⟨S8x4096x768, .f32⟩
  | 7 => ⟨S8x4096x256, .f32⟩
  | 8 => ⟨S8x4096x256, .f32⟩
  | 9 => ⟨S8x4096x256, .f32⟩
  | 10 => ⟨S_, .i32⟩
  | 11 => ⟨S_, .f32⟩
  | 12 => ⟨S8x258x768, .f32⟩
  | 13 => ⟨S8x256x768, .f32⟩
  | 14 => ⟨S1x768, .f32⟩
  | 15 => ⟨S768, .f32⟩
  | 16 => ⟨S1x1x768, .f32⟩
  | 17 => ⟨S8x256x768, .f32⟩
  | 18 => ⟨S8x256x768, .f32⟩
  | 19 => ⟨S8x256x768, .f32⟩
  | 20 => ⟨S1x768, .f32⟩
  | 21 => ⟨S768, .f32⟩
  | 22 => ⟨S1x1x768, .f32⟩
  | 23 => ⟨S8x256x768, .f32⟩
  | 24 => ⟨S8x256x768, .f32⟩
  | 25 => ⟨S8x256x768, .f32⟩
  | 26 => ⟨S8x256x768, .f32⟩
  | 27 => ⟨S1x768, .f32⟩
  | 28 => ⟨S768, .f32⟩
  | 29 => ⟨S1x1x768, .f32⟩
  | 30 => ⟨S8x256x768, .f32⟩
  | 31 => ⟨S8x256x768, .f32⟩
  | 32 => ⟨S8x256x768, .f32⟩
  | 33 => ⟨S1x1x768, .f32⟩
  | 34 => ⟨S8x256x768, .f32⟩
  | 35 => ⟨S8x256x768, .f32⟩
  | 36 => ⟨S8x256x256, .f32⟩
  | 37 => ⟨S8x256x256, .f32⟩
  | 38 => ⟨S8x256x256, .f32⟩
  | 39 => ⟨S8x4352x256, .f32⟩
  | 40 => ⟨S4352x8x256, .f32⟩
  | 41 => ⟨S4352x2048, .f32⟩
  | 42 => ⟨S8x4352x256, .f32⟩
  | 43 => ⟨S8x4352x256, .bf16⟩
  | 44 => ⟨S8x4096x256, .f32⟩
  | 45 => ⟨S8x256x256, .f32⟩
  | 46 => ⟨S8x4352x256, .f32⟩
  | 47 => ⟨S8x4352x512, .f32⟩
  | 48 => ⟨S8x4352x512, .bf16⟩
  | 49 => ⟨S8x4096x4x2x64, .f32⟩
  | 50 => ⟨S8x4x2x4096x64, .f32⟩
  | 51 => ⟨S8x4x2x4096x32, .f32⟩
  | 52 => ⟨S8x4x2x4096x32, .f32⟩
  | 53 => ⟨S1x1x1x4096x32, .f32⟩
  | 54 => ⟨S8x4x2x4096x32, .f32⟩
  | 55 => ⟨S8x4x2x4096x32, .f32⟩
  | 56 => ⟨S1x1x1x4096x32, .f32⟩
  | 57 => ⟨S8x4x2x4096x32, .f32⟩
  | 58 => ⟨S8x4x2x4096x32, .f32⟩
  | 59 => ⟨S8x4x2x4096x32, .f32⟩
  | 60 => ⟨S1x1x1x4096x32, .f32⟩
  | 61 => ⟨S8x4x2x4096x32, .f32⟩
  | 62 => ⟨S8x4x2x4096x32, .f32⟩
  | 63 => ⟨S1x1x1x4096x32, .f32⟩
  | 64 => ⟨S8x4x2x4096x32, .f32⟩
  | 65 => ⟨S8x4x2x4096x32, .f32⟩
  | 66 => ⟨S8x4x2x4096x32, .f32⟩
  | 67 => ⟨S8x4x2x4096x64, .f32⟩
  | 68 => ⟨S8x4096x4x2x64, .f32⟩
  | 69 => ⟨S8x4096x512, .f32⟩
  | 70 => ⟨S8x4352x512, .f32⟩
  | 71 => ⟨S8x4352x512, .bf16⟩
  | 72 => ⟨S8x4096x4x2x64, .f32⟩
  | 73 => ⟨S8x4x2x4096x64, .f32⟩
  | 74 => ⟨S8x4x2x4096x32, .f32⟩
  | 75 => ⟨S8x4x2x4096x32, .f32⟩
  | 76 => ⟨S1x1x1x4096x32, .f32⟩
  | 77 => ⟨S8x4x2x4096x32, .f32⟩
  | 78 => ⟨S8x4x2x4096x32, .f32⟩
  | 79 => ⟨S1x1x1x4096x32, .f32⟩
  | 80 => ⟨S8x4x2x4096x32, .f32⟩
  | 81 => ⟨S8x4x2x4096x32, .f32⟩
  | 82 => ⟨S8x4x2x4096x32, .f32⟩
  | 83 => ⟨S1x1x1x4096x32, .f32⟩
  | 84 => ⟨S8x4x2x4096x32, .f32⟩
  | 85 => ⟨S8x4x2x4096x32, .f32⟩
  | 86 => ⟨S1x1x1x4096x32, .f32⟩
  | 87 => ⟨S8x4x2x4096x32, .f32⟩
  | 88 => ⟨S8x4x2x4096x32, .f32⟩
  | 89 => ⟨S8x4x2x4096x32, .f32⟩
  | 90 => ⟨S8x4x2x4096x64, .f32⟩
  | 91 => ⟨S8x4096x4x2x64, .f32⟩
  | 92 => ⟨S8x4096x512, .f32⟩
  | 93 => ⟨S8x4352x512, .f32⟩
  | 94 => ⟨S8x4352x512, .bf16⟩
  | 95 => ⟨S8x4352x512, .f32⟩
  | 96 => ⟨S8x4352x512, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_1 : Ref sig .tc := ⟨.hbm, 50, rfl⟩
abbrev main_v40 : Ref sig .tc := ⟨.hbm, 51, rfl⟩
abbrev main_v41 : Ref sig .tc := ⟨.hbm, 52, rfl⟩
abbrev main_cst_2 : Ref sig .tc := ⟨.hbm, 53, rfl⟩
abbrev main_v42 : Ref sig .tc := ⟨.hbm, 54, rfl⟩
abbrev main_v43 : Ref sig .tc := ⟨.hbm, 55, rfl⟩
abbrev main_cst_3 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_4 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_5 : Ref sig .tc := ⟨.hbm, 74, rfl⟩
abbrev main_v60 : Ref sig .tc := ⟨.hbm, 75, rfl⟩
abbrev main_v61 : Ref sig .tc := ⟨.hbm, 76, rfl⟩
abbrev main_cst_6 : Ref sig .tc := ⟨.hbm, 77, rfl⟩
abbrev main_v62 : Ref sig .tc := ⟨.hbm, 78, rfl⟩
abbrev main_v63 : Ref sig .tc := ⟨.hbm, 79, rfl⟩
abbrev main_cst_7 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_8 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_c : Ref sig .tc := ⟨.hbm, 109, rfl⟩
abbrev main_call0_v0 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_c_9 : Ref sig .tc := ⟨.hbm, 138, rfl⟩
abbrev main_call1_v0 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩

abbrev nD : Nat := 1
abbrev τ : Topo := Topo.v7x

variable {F : FTy → Type} [FloatOps F]
-- ==== Proof.Softmax.lean ====
/- The mathematics of one row of the differential attention, over the extended reals: the kernel's two-part
   softmax in powers of two equals the reference's softmax in powers of e, and the difference of two such maps
   applied to the values agrees. -/
module

public import Idealize.ShloMosaic.PureOps.Ideal
public import Mathlib.Algebra.BigOperators.Fin
public import Mathlib.Data.EReal.Inv
public import Mathlib.Tactic.FieldSimp

@[expose] public section

noncomputable section

namespace Cert.Attn

open Idealize.ShloMosaic

/-- The largest entry of a family, from below everything, is the family's supremum. -/
theorem fold_max_eq_sup {ι : Type} [Fintype ι] (f : ι → EReal) :
    Finset.univ.fold max ⊥ f = Finset.univ.sup f := rfl

/-- The row maximum as the kernel takes it: over the context's scores, then over the latents'. -/
def rowMax {n k : ℕ} (s : Fin n → EReal) (t : Fin k → EReal) : EReal :=
  max (Finset.univ.fold max ⊥ s) (Finset.univ.fold max ⊥ t)

/-- The row's normaliser as the kernel takes it, the context's part first. -/
def rowDen {n k : ℕ} (s : Fin n → EReal) (t : Fin k → EReal) : EReal :=
  (∑ j, Ideal.exp2 (s j - rowMax s t)) + ∑ j, Ideal.exp2 (t j - rowMax s t)

/-- The logarithm of e to base 2. -/
def log2e : ℝ := (Real.log 2)⁻¹

/-- The binary logarithm of e is positive. -/
theorem log2e_pos : 0 < log2e := inv_pos.mpr (Real.log_pos one_lt_two)

/-- A power of two of a score in units of log₂ e is the power of e of the score. -/
theorem exp2_scaled (r : ℝ) : Ideal.exp2 ((r * log2e : ℝ) : EReal) = ((Real.exp r : ℝ) : EReal) := by
  rw [Ideal.exp2_coe]
  congr 1
  show (2 : ℝ) ^ (r * log2e) = Real.exp r
  rw [Real.rpow_def_of_pos two_pos, log2e]
  congr 1
  have h : Real.log 2 ≠ 0 := (Real.log_pos one_lt_two).ne'
  field_simp

/-- The supremum of finitely many real numbers, at least one of them, is one of them and bounds them all. -/
theorem sup_real {n : ℕ} (hn : 0 < n) (x : Fin n → ℝ) :
    ∃ M : ℝ, Finset.univ.sup (fun j => (x j : EReal)) = (M : EReal) ∧ (∀ j, x j ≤ M) ∧ ∃ j, x j = M := by
  haveI : Nonempty (Fin n) := ⟨⟨0, hn⟩⟩
  obtain ⟨j, -, hj⟩ := Finset.exists_mem_eq_sup Finset.univ Finset.univ_nonempty (fun j => (x j : EReal))
  refine ⟨x j, hj, fun i => ?_, j, rfl⟩
  have : (x i : EReal) ≤ Finset.univ.sup (fun j => (x j : EReal)) :=
    Finset.le_sup (f := fun j => (x j : EReal)) (Finset.mem_univ i)
  rw [hj] at this
  exact_mod_cast this

/-- A finite sum of real numbers, taken in the extended reals, is the real sum. -/
theorem sum_coe {ι : Type} (s : Finset ι) (f : ι → ℝ) : (∑ j ∈ s, (f j : EReal)) = ((∑ j ∈ s, f j : ℝ) : EReal) := by
  classical
  induction s using Finset.induction_on with
  | empty => simp
  | insert a s ha ih => rw [Finset.sum_insert ha, Finset.sum_insert ha, ih, EReal.coe_add]

/-- The kernel's maximum of a row of scaled scores is the scaled maximum. -/
theorem rowMax_scaled {n k : ℕ} (x : Fin (n + k) → ℝ) (M : ℝ) (hle : ∀ j, x j ≤ M) (hM : ∃ j, x j = M) :
    rowMax (fun j : Fin n => ((x (Fin.castAdd k j) * log2e : ℝ) : EReal))
      (fun j : Fin k => ((x (Fin.natAdd n j) * log2e : ℝ) : EReal)) = ((M * log2e : ℝ) : EReal) := by
  rw [rowMax, fold_max_eq_sup, fold_max_eq_sup]
  apply le_antisymm
  · refine max_le (Finset.sup_le fun j _ => ?_) (Finset.sup_le fun j _ => ?_) <;>
      exact EReal.coe_le_coe_iff.mpr (mul_le_mul_of_nonneg_right (hle _) log2e_pos.le)
  · obtain ⟨j, rfl⟩ := hM
    refine Fin.addCases (fun i => ?_) (fun i => ?_) j
    · exact le_max_of_le_left (Finset.le_sup (f := fun j : Fin n => ((x (Fin.castAdd k j) * log2e : ℝ) : EReal))
        (Finset.mem_univ i))
    · exact le_max_of_le_right (Finset.le_sup (f := fun j : Fin k => ((x (Fin.natAdd n j) * log2e : ℝ) : EReal))
        (Finset.mem_univ i))

/-- One softmax row, both ways: real weights `e` and their positive sum `D` give what the kernel computes in powers
    of two from the scaled scores and what the reference computes in powers of e. -/
theorem row {n k : ℕ} (hn : 0 < n) (x : Fin (n + k) → ℝ) (s : Fin n → EReal) (t : Fin k → EReal)
    (hs : ∀ j, s j = ((x (Fin.castAdd k j) * log2e : ℝ) : EReal)) (ht : ∀ j, t j = ((x (Fin.natAdd n j) * log2e : ℝ) : EReal)) :
    ∃ (e : Fin (n + k) → ℝ) (D : ℝ), 0 < D
      ∧ (∀ j, Ideal.exp2 (s j - rowMax s t) = (e (Fin.castAdd k j) : EReal))
      ∧ (∀ j, Ideal.exp2 (t j - rowMax s t) = (e (Fin.natAdd n j) : EReal))
      ∧ rowDen s t = (D : EReal)
      ∧ (∀ j, Ideal.exp ((x j : EReal) - Finset.univ.sup (fun j => (x j : EReal))) = (e j : EReal))
      ∧ (∑ j, Ideal.exp ((x j : EReal) - Finset.univ.sup (fun j => (x j : EReal)))) = (D : EReal) := by
  obtain rfl : s = _ := funext hs
  obtain rfl : t = _ := funext ht
  obtain ⟨M, hsup, hle, hM⟩ := sup_real (Nat.add_pos_left hn k) x
  have hmx := rowMax_scaled x M hle hM
  have h1 : ∀ r : ℝ, Ideal.exp2 (((r * log2e : ℝ) : EReal) - ((M * log2e : ℝ) : EReal)) = ((Real.exp (r - M) : ℝ) : EReal) := by
    intro r
    rw [← EReal.coe_sub, ← sub_mul, exp2_scaled]
  have h2 : ∀ j, Ideal.exp ((x j : EReal) - Finset.univ.sup (fun j => (x j : EReal))) = ((Real.exp (x j - M) : ℝ) : EReal) := by
    intro j
    rw [hsup, ← EReal.coe_sub, Ideal.exp_coe]
  refine ⟨fun j => Real.exp (x j - M), ∑ j, Real.exp (x j - M), ?_, ?_, ?_, ?_, h2, ?_⟩
  · haveI : Nonempty (Fin (n + k)) := ⟨⟨0, Nat.add_pos_left hn k⟩⟩
    exact Finset.sum_pos (fun j _ => Real.exp_pos _) Finset.univ_nonempty
  · intro j; rw [hmx, h1]
  · intro j; rw [hmx, h1]
  · rw [rowDen, hmx]; simp only [h1]
    rw [sum_coe, sum_coe, ← EReal.coe_add, Fin.sum_univ_add]
  · simp only [h2]; rw [sum_coe]

/-- Division of reals by a nonzero real, in the extended reals. -/
theorem div_real (a b : ℝ) (hb : b ≠ 0) : Ideal.div (a : EReal) (b : EReal) = ((a / b : ℝ) : EReal) := by
  rw [Ideal.div, if_neg (by exact_mod_cast hb), div_eq_mul_inv, EReal.coe_mul, EReal.coe_inv]

/-- The attention row: the kernel's weights, normalised by reciprocals and applied part by part, give the
    reference's difference of softmaxes applied to the whole row of values. -/
theorem attend {n k : ℕ} (hn : 0 < n) (x₀ x₁ : Fin (n + k) → ℝ) (s₀ s₁ : Fin n → EReal) (t₀ t₁ : Fin k → EReal)
    (hs₀ : ∀ j, s₀ j = ((x₀ (Fin.castAdd k j) * log2e : ℝ) : EReal)) (ht₀ : ∀ j, t₀ j = ((x₀ (Fin.natAdd n j) * log2e : ℝ) : EReal))
    (hs₁ : ∀ j, s₁ j = ((x₁ (Fin.castAdd k j) * log2e : ℝ) : EReal)) (ht₁ : ∀ j, t₁ j = ((x₁ (Fin.natAdd n j) * log2e : ℝ) : EReal))
    (lam : EReal) (v : Fin (n + k) → EReal) :
    (∑ j, (Ideal.exp2 (s₀ j - rowMax s₀ t₀) * Ideal.div 1 (rowDen s₀ t₀)
          - Ideal.exp2 (s₁ j - rowMax s₁ t₁) * (lam * Ideal.div 1 (rowDen s₁ t₁))) * v (Fin.castAdd k j))
      + (∑ j, (Ideal.exp2 (t₀ j - rowMax s₀ t₀) * Ideal.div 1 (rowDen s₀ t₀)
          - Ideal.exp2 (t₁ j - rowMax s₁ t₁) * (lam * Ideal.div 1 (rowDen s₁ t₁))) * v (Fin.natAdd n j))
      = ∑ j, (Ideal.div (Ideal.exp ((x₀ j : EReal) - Finset.univ.sup (fun j => (x₀ j : EReal))))
            (∑ j, Ideal.exp ((x₀ j : EReal) - Finset.univ.sup (fun j => (x₀ j : EReal))))
          - lam * Ideal.div (Ideal.exp ((x₁ j : EReal) - Finset.univ.sup (fun j => (x₁ j : EReal))))
            (∑ j, Ideal.exp ((x₁ j : EReal) - Finset.univ.sup (fun j => (x₁ j : EReal))))) * v j := by
  obtain ⟨e₀, D₀, hD₀, a1, a2, a3, a4, a5⟩ := row hn x₀ s₀ t₀ hs₀ ht₀
  obtain ⟨e₁, D₁, hD₁, b1, b2, b3, b4, b5⟩ := row hn x₁ s₁ t₁ hs₁ ht₁
  have key : ∀ a b : ℝ, (a : EReal) * Ideal.div 1 (D₀ : EReal) - (b : EReal) * (lam * Ideal.div 1 (D₁ : EReal))
      = Ideal.div (a : EReal) (D₀ : EReal) - lam * Ideal.div (b : EReal) (D₁ : EReal) := by
    intro a b
    have e1 : Ideal.div 1 (D₀ : EReal) = ((1 / D₀ : ℝ) : EReal) := div_real 1 D₀ hD₀.ne'
    have e2 : Ideal.div 1 (D₁ : EReal) = ((1 / D₁ : ℝ) : EReal) := div_real 1 D₁ hD₁.ne'
    rw [e1, e2, div_real a D₀ hD₀.ne', div_real b D₁ hD₁.ne', ← EReal.coe_mul, mul_one_div,
      mul_left_comm, ← EReal.coe_mul, mul_one_div]
  rw [a5, b5, Fin.sum_univ_add]
  simp only [a1, a2, a3, a4, b1, b2, b3, b4, key]

end Cert.Attn

end
-- ==== Proof.Tile.lean ====
/- What the kernel's body computes for one group of 256 query rows, read at an index: the two maps' scores, the
   attended row and its normalisation. -/
module

public import proofs.«01_k».proof.Proof.Softmax
public import proofs.«01_k».proof.Proof.Gen.KernelIdeal.Skeleton
public import Idealize.ShloMosaic.Lib.Pointwise

@[expose] public section

set_option maxRecDepth 16384

noncomputable section

namespace Cert.Attn

open Cert.KernelIdeal Cert.KernelIdeal.Gen Idealize.ShloMosaic

/-- The factor by which the queries are scaled, as the program names it. -/
def qScale : EReal := Named.named (F := Ideal) (φ := .f32) κ "q_scale" 0x3E38AA3B#32

/-- Its value: one over the root of the head's width, in units of log₂ e. -/
theorem qScale_eq : qScale = ((0.125 * log2e : ℝ) : EReal) := by
  have h : qScale = (((Real.sqrt 64)⁻¹ * (Real.log 2)⁻¹ : ℝ) : EReal) :=
    (IdealRules.named_const.statement κ "q_scale" .f32 0x3E38AA3B#32 _ rfl).2.2
  have h8 : Real.sqrt 64 = 8 := by
    rw [show (64 : ℝ) = 8 ^ 2 by norm_num]; exact Real.sqrt_sq (by norm_num)
  rw [h, h8, log2e]; norm_num

/-- The pattern of negative infinity denotes the least extended real. -/
theorem ofBits_negInf : Ideal.ofBits .f32 0xFF800000#32 = ⊥ := by
  simp [Ideal.ofBits, Ideal.ieee]

/-- The score of the first map: the scaled query against the key over the first 64 lanes. -/
def low (q k : Fin 128 → EReal) : EReal := ∑ x, if x.val < 64 then q x * qScale * k x else 0

/-- The score of the second map: over the last 64 lanes. -/
def high (q k : Fin 128 → EReal) : EReal := ∑ x, if x.val < 64 then 0 else q x * qScale * k x

/-- The difference of two softmax maps applied to one column of values, the context's part first. -/
def attended {n k : ℕ} (s₀ s₁ : Fin n → EReal) (t₀ t₁ : Fin k → EReal) (lam : EReal) (vC : Fin n → EReal) (vL : Fin k → EReal) : EReal :=
  (∑ j, (Ideal.exp2 (s₀ j - rowMax s₀ t₀) * Ideal.div 1 (rowDen s₀ t₀)
        - Ideal.exp2 (s₁ j - rowMax s₁ t₁) * (lam * Ideal.div 1 (rowDen s₁ t₁))) * vC j)
    + ∑ j, (Ideal.exp2 (t₀ j - rowMax s₀ t₀) * Ideal.div 1 (rowDen s₀ t₀)
        - Ideal.exp2 (t₁ j - rowMax s₁ t₁) * (lam * Ideal.div 1 (rowDen s₁ t₁))) * vL j

/-- A row divided by its root mean square. -/
def normed (o : Fin 128 → EReal) (d : Fin 128) : EReal :=
  o d * Ideal.rsqrt (Ideal.div (∑ x, o x * o x) (Ideal.ofBits .f32 0x43000000#32) + Ideal.ofBits .f32 0x358637BD#32)

/-- The first map's mask, read at a lane. -/
theorem low_select (x : Fin 128) (a : EReal) :
    Scalar.select (IntOp.cmpi CmpIPredicate.slt (BitVec.ofNat 32 ↑x) 64#32) a 0 = if x.val < 64 then a else 0 := by
  have h : IntOp.cmpi CmpIPredicate.slt (BitVec.ofNat 32 ↑x) 64#32 = if x.val < 64 then 1#1 else 0#1 := by
    revert x; decide +kernel
  rw [h]; split <;> rfl

/-- The second map's mask, read at a lane. -/
theorem high_select (x : Fin 128) (a : EReal) :
    Scalar.select (IntOp.xori (IntOp.cmpi CmpIPredicate.slt (BitVec.ofNat 32 ↑x) 64#32) 1#1) a 0 = if x.val < 64 then 0 else a := by
  have h : IntOp.xori (IntOp.cmpi CmpIPredicate.slt (BitVec.ofNat 32 ↑x) 64#32) 1#1 = if x.val < 64 then 0#1 else 1#1 := by
    revert x; decide +kernel
  rw [h]; split <;> rfl

/-- The row maximum as the two reductions and their join spell it. -/
theorem rowMax_fold {n k : ℕ} (s : Fin n → Ideal .f32) (t : Fin k → Ideal .f32) :
    max (Finset.fold max (Ideal.ofBits .f32 0xFF800000#32 : Ideal .f32) (fun x => s x) Finset.univ)
      (Finset.fold max (Ideal.ofBits .f32 0xFF800000#32 : Ideal .f32) (fun x => t x) Finset.univ) = rowMax s t := by
  rw [ofBits_negInf]; rfl

section
variable (qp qr kC vC : FVec Ideal S1x256x128 .bf16) (kL vL : FVec Ideal S1x4096x128 .bf16)
  (lam : FVec Ideal S1x1 .f32) (g : FVec Ideal S1x128 .f32) (r : Fin 256)

/-- The context's score under the first map. -/
theorem scoreC₀ (j : Fin 256) :
    k0_pay5 (F := Ideal) qp kC (ix2 r j) = low (fun x => qp (ix3 0 r x)) fun x => kC (ix3 0 j x) := by
  pointwise [k0_pay5, k0_pay3, k0_pay2]
  exact Finset.sum_congr rfl fun x _ => low_select x _

/-- The latents' score under the first map. -/
theorem scoreL₀ (j : Fin 4096) :
    k0_pay6 (F := Ideal) qr kL (ix2 r j) = low (fun x => qr (ix3 0 r x)) fun x => kL (ix3 0 j x) := by
  pointwise [k0_pay6, k0_pay4, k0_pay2]
  exact Finset.sum_congr rfl fun x _ => low_select x _

/-- The context's score under the second map. -/
theorem scoreC₁ (j : Fin 256) :
    k0_pay15 (F := Ideal) k0_pay2 (k0_pay3 qp) kC (ix2 r j) = high (fun x => qp (ix3 0 r x)) fun x => kC (ix3 0 j x) := by
  pointwise [k0_pay15, k0_pay14, k0_pay3, k0_pay2]
  exact Finset.sum_congr rfl fun x _ => high_select x _

/-- The latents' score under the second map. -/
theorem scoreL₁ (j : Fin 4096) :
    k0_pay16 (F := Ideal) k0_pay2 (k0_pay4 qr) kL (ix2 r j) = high (fun x => qr (ix3 0 r x)) fun x => kL (ix3 0 j x) := by
  pointwise [k0_pay16, k0_pay14, k0_pay4, k0_pay2]
  exact Finset.sum_congr rfl fun x _ => high_select x _

/-- What the body computes for one group of query rows, as its first group spells it. -/
def tile : FVec Ideal S1x256x128 .bf16 :=
  k0_pay23 (k0_pay22 (k0_pay11 (k0_pay5 qp kC) (k0_pay7 qp qr kC kL)) (k0_pay12 (k0_pay8 qp qr kC kL))
    (k0_pay13 (k0_pay5 qp kC) (k0_pay7 qp qr kC kL) (k0_pay8 qp qr kC kL))
    (k0_pay18 k0_pay2 (k0_pay3 qp) (k0_pay4 qr) kC kL) (k0_pay19 k0_pay2 (k0_pay3 qp) (k0_pay4 qr) kC kL)
    (k0_pay20 k0_pay2 (k0_pay3 qp) (k0_pay4 qr) kC kL) (k0_pay21 k0_pay2 (k0_pay3 qp) (k0_pay4 qr) kC kL) lam vC vL g)

/-- The first map's row maximum. -/
theorem max₀ : k0_pay7 (F := Ideal) qp qr kC kL (ix2 r 0)
    = rowMax (fun j => k0_pay5 (F := Ideal) qp kC (ix2 r j)) fun j => k0_pay6 (F := Ideal) qr kL (ix2 r j) := by
  pointwise [k0_pay7]
  exact rowMax_fold _ _

/-- The second map's row maximum. -/
theorem max₁ : k0_pay17 (F := Ideal) k0_pay2 (k0_pay3 qp) (k0_pay4 qr) kC kL (ix2 r 0)
    = rowMax (fun j => k0_pay15 (F := Ideal) k0_pay2 (k0_pay3 qp) kC (ix2 r j)) fun j => k0_pay16 (F := Ideal) k0_pay2 (k0_pay4 qr) kL (ix2 r j) := by
  pointwise [k0_pay17]
  exact rowMax_fold _ _

/-- The first map's weights of the context, before they are divided. -/
theorem expC₀ (j : Fin 256) : k0_pay11 (F := Ideal) (k0_pay5 qp kC) (k0_pay7 qp qr kC kL) (ix2 r j)
    = Ideal.exp2 (k0_pay5 (F := Ideal) qp kC (ix2 r j) - k0_pay7 (F := Ideal) qp qr kC kL (ix2 r 0)) := by
  pointwise [k0_pay11, k0_pay10]
  rfl

/-- The first map's weights of the latents, before they are divided. -/
theorem expL₀ (j : Fin 4096) : k0_pay12 (F := Ideal) (k0_pay8 qp qr kC kL) (ix2 r j)
    = Ideal.exp2 (k0_pay6 (F := Ideal) qr kL (ix2 r j) - k0_pay7 (F := Ideal) qp qr kC kL (ix2 r 0)) := by
  pointwise [k0_pay12, k0_pay9, k0_pay8]
  rfl

/-- The first map's normaliser. -/
theorem den₀ : k0_pay13 (F := Ideal) (k0_pay5 qp kC) (k0_pay7 qp qr kC kL) (k0_pay8 qp qr kC kL) (ix2 r 0)
    = Ideal.div 1 ((∑ j, Ideal.exp2 (k0_pay5 (F := Ideal) qp kC (ix2 r j) - k0_pay7 (F := Ideal) qp qr kC kL (ix2 r 0)))
        + ∑ j, Ideal.exp2 (k0_pay6 (F := Ideal) qr kL (ix2 r j) - k0_pay7 (F := Ideal) qp qr kC kL (ix2 r 0))) := by
  pointwise [k0_pay13, k0_pay9, k0_pay10, k0_pay8]
  rfl

/-- The second map's weights of the latents, before they are divided. -/
theorem expL₁ (j : Fin 4096) : k0_pay18 (F := Ideal) k0_pay2 (k0_pay3 qp) (k0_pay4 qr) kC kL (ix2 r j)
    = Ideal.exp2 (k0_pay16 (F := Ideal) k0_pay2 (k0_pay4 qr) kL (ix2 r j) - k0_pay17 (F := Ideal) k0_pay2 (k0_pay3 qp) (k0_pay4 qr) kC kL (ix2 r 0)) := by
  pointwise [k0_pay18]
  rfl

/-- The second map's weights of the context, before they are divided. -/
theorem expC₁ (j : Fin 256) : k0_pay19 (F := Ideal) k0_pay2 (k0_pay3 qp) (k0_pay4 qr) kC kL (ix2 r j)
    = Ideal.exp2 (k0_pay15 (F := Ideal) k0_pay2 (k0_pay3 qp) kC (ix2 r j) - k0_pay17 (F := Ideal) k0_pay2 (k0_pay3 qp) (k0_pay4 qr) kC kL (ix2 r 0)) := by
  pointwise [k0_pay19]
  rfl

/-- The context's part of the second map's normaliser. -/
theorem denC₁ : k0_pay20 (F := Ideal) k0_pay2 (k0_pay3 qp) (k0_pay4 qr) kC kL (ix2 r 0)
    = ∑ j, k0_pay19 (F := Ideal) k0_pay2 (k0_pay3 qp) (k0_pay4 qr) kC kL (ix2 r j) := by
  pointwise [k0_pay20]

/-- The latents' part of the second map's normaliser. -/
theorem denL₁ : k0_pay21 (F := Ideal) k0_pay2 (k0_pay3 qp) (k0_pay4 qr) kC kL (ix1 r)
    = ∑ j, k0_pay18 (F := Ideal) k0_pay2 (k0_pay3 qp) (k0_pay4 qr) kC kL (ix2 r j) := by
  pointwise [k0_pay21]

/-- The end of a group over its maps' weights: the weighted values, normalised, times the gain. -/
theorem tail_apply (a : FVec Ideal S256x256 .f32) (b : FVec Ideal S256x4096 .f32) (c : FVec Ideal S256x1 .f32)
    (e : FVec Ideal S256x4096 .f32) (f : FVec Ideal S256x256 .f32) (h : FVec Ideal S256x1 .f32) (i : FVec Ideal S256 .f32) (d : Fin 128) :
    k0_pay23 (k0_pay22 a b c e f h i lam vC vL g) (ix3 0 r d)
      = normed (fun d => (∑ j, (a (ix2 r j) * c (ix2 r 0) - f (ix2 r j) * (lam (ix2 0 0) * Ideal.div 1 (h (ix2 r 0) + i (ix1 r)))) * vC (ix3 0 j d))
        + ∑ j, (b (ix2 r j) * c (ix2 r 0) - e (ix2 r j) * (lam (ix2 0 0) * Ideal.div 1 (h (ix2 r 0) + i (ix1 r)))) * vL (ix3 0 j d)) d
        * g (ix2 0 d) := by
  pointwise [k0_pay23, k0_pay22]
  rfl

/-- One group of rows at an index: the attended row, normalised, times the gain. -/
theorem tile_apply (d : Fin 128) :
    tile qp qr kC vC kL vL lam g (ix3 0 r d)
      = normed (fun d => attended (fun j => low (fun x => qp (ix3 0 r x)) fun x => kC (ix3 0 j x))
          (fun j => high (fun x => qp (ix3 0 r x)) fun x => kC (ix3 0 j x))
          (fun j => low (fun x => qr (ix3 0 r x)) fun x => kL (ix3 0 j x))
          (fun j => high (fun x => qr (ix3 0 r x)) fun x => kL (ix3 0 j x))
          (lam (ix2 0 0)) (fun j => vC (ix3 0 j d)) fun j => vL (ix3 0 j d)) d * g (ix2 0 d) := by
  rw [tile, tail_apply]
  simp only [expC₀, expL₀, den₀, denC₁, denL₁, expL₁, expC₁, max₀, max₁, scoreC₀, scoreL₀, scoreC₁, scoreL₁]
  rfl

end

end Cert.Attn

end
-- ==== Proof.Block.lean ====
/- What the kernel's result array holds: every block is four groups of query rows, and the blocks fill the array. -/
module

public import proofs.«01_k».proof.Proof.Tile
public import proofs.«01_k».proof.Proof.Gen.KernelIdeal.Value
public import Idealize.ShloMosaic.Lib.Pipeline.ValueKit

@[expose] public section

set_option maxRecDepth 16384

noncomputable section

namespace Cert.Attn

open Cert.KernelIdeal Cert.KernelIdeal.Gen Idealize.ShloMosaic Idealize.ShloMosaic.TcCoe Idealize.SL.Sem

/-- Lane `x` of head `h`. -/
def lane (h : Fin 4) (x : Fin 128) : Fin 512 := ⟨h.val * 128 + x.val, by omega⟩

/-- Row `j` of the latents among all the rows. -/
def latRow (j : Fin 4096) : Fin 4352 := ⟨j.val, by omega⟩

/-- Row `j` of the context among all the rows. -/
def ctxRow (j : Fin 256) : Fin 4352 := ⟨4096 + j.val, by omega⟩

/-- One element of the attention over the prepared arrays: the queries as they are `Q` and rotated `R`, the keys, the values, the
    difference's coefficient and the gain. -/
def outVal (Q R K W : FVec Ideal S8x4352x512 .bf16) (lam : FVec Ideal S8x128 .f32) (g : FVec Ideal S1x128 .f32)
    (b : Fin 8) (q : Fin 4096) (h : Fin 4) (d : Fin 128) : EReal :=
  normed (fun d => attended
    (fun j => low (fun x => Q (ix3 b (latRow q) (lane h x))) fun x => K (ix3 b (ctxRow j) (lane h x)))
    (fun j => high (fun x => Q (ix3 b (latRow q) (lane h x))) fun x => K (ix3 b (ctxRow j) (lane h x)))
    (fun j => low (fun x => R (ix3 b (latRow q) (lane h x))) fun x => K (ix3 b (latRow j) (lane h x)))
    (fun j => high (fun x => R (ix3 b (latRow q) (lane h x))) fun x => K (ix3 b (latRow j) (lane h x)))
    (lam (ix2 0 0)) (fun j => W (ix3 b (ctxRow j) (lane h d))) fun j => W (ix3 b (latRow j) (lane h d))) d * g (ix2 0 d)

/-- The block indices of the windows at a point of the grid. -/
theorem idx : ∀ t : Fin cfg0.N, win0_0.index t = ![t.val / 16, t.val % 4, t.val / 4 % 4]
    ∧ win0_1.index t = ![t.val / 16, t.val % 4, t.val / 4 % 4] ∧ win0_2.index t = ![t.val / 16, 0, t.val / 4 % 4]
    ∧ win0_3.index t = ![t.val / 16, 0, t.val / 4 % 4] ∧ win0_4.index t = ![0, 0] ∧ win0_5.index t = ![0, 0]
    ∧ win0_6.index t = ![t.val / 16, t.val % 4, t.val / 4 % 4] :=
  (by decide +kernel : ∀ t : Fin grid0.N, _)

variable (m : (ℓ : Loc nD τ sig) → Buf (Elt Ideal) ℓ)

/-- The kernel's result as a function of the index. -/
def result (c : Dev nD) : S8x4096x512.Idx → EReal := fun y =>
  outVal (V m c main_v45) (V m c main_v56) (V m c main_v68) (V m c main_v70) (V m c main_v83) (V m c main_v82)
    (y 0) (y 1) ⟨(y 2).val / 128, Nat.div_lt_of_lt_mul (y 2).isLt⟩ ⟨(y 2).val % 128, Nat.mod_lt _ (by decide)⟩

/-- The unrotated queries' buffer at a point. -/
theorem X0_at (c : Dev nD) (t : Fin cfg0.N) (j : S1x1024x128.Idx) (i : S8x4352x512.Idx) (h0 : (i 0).val = t.val / 16)
    (h1 : (i 1).val = t.val % 4 * 1024 + (j 1).val) (h2 : (i 2).val = t.val / 4 % 4 * 128 + (j 2).val) :
    X0_0 m c t j = V m c main_v45 i := by
  unfold X0_0 Pipeline.Window.fill
  rw [dif_pos (moved0_0 t j)]
  blk_ext [iblk, idx t]

/-- The rotated queries' buffer at a point. -/
theorem X1_at (c : Dev nD) (t : Fin cfg0.N) (j : S1x1024x128.Idx) (i : S8x4352x512.Idx) (h0 : (i 0).val = t.val / 16)
    (h1 : (i 1).val = t.val % 4 * 1024 + (j 1).val) (h2 : (i 2).val = t.val / 4 % 4 * 128 + (j 2).val) :
    X0_1 m c t j = V m c main_v56 i := by
  unfold X0_1 Pipeline.Window.fill
  rw [dif_pos (moved0_1 t j)]
  blk_ext [iblk, idx t]

/-- The keys' block at a point. -/
theorem K_at (c : Dev nD) (t : Fin cfg0.N) (j : S1x4352x128.Idx) (i : S8x4352x512.Idx) (h0 : (i 0).val = t.val / 16)
    (h1 : (i 1).val = (j 1).val) (h2 : (i 2).val = t.val / 4 % 4 * 128 + (j 2).val) :
    iblk m c 2 t j = V m c main_v68 i := by
  blk_ext [iblk, idx t]

/-- The values' block at a point. -/
theorem W_at (c : Dev nD) (t : Fin cfg0.N) (j : S1x4352x128.Idx) (i : S8x4352x512.Idx) (h0 : (i 0).val = t.val / 16)
    (h1 : (i 1).val = (j 1).val) (h2 : (i 2).val = t.val / 4 % 4 * 128 + (j 2).val) :
    iblk m c 3 t j = V m c main_v70 i := by
  blk_ext [iblk, idx t]

end Cert.Attn

end
-- ==== Proof.Array.lean ====
/- The four groups of query rows of a block compute the same function, so the kernel's result array is read off the blocks. -/
module

public import proofs.«01_k».proof.Proof.Block

@[expose] public section

set_option maxRecDepth 16384

noncomputable section

namespace Cert.Attn

open Cert.KernelIdeal Cert.KernelIdeal.Gen Idealize.ShloMosaic Idealize.ShloMosaic.TcCoe Idealize.SL.Sem

section
variable (qp qr kC vC : FVec Ideal S1x256x128 .bf16) (kL vL : FVec Ideal S1x4096x128 .bf16)
  (lam : FVec Ideal S1x1 .f32) (g : FVec Ideal S1x128 .f32)

/-- The second group's spelling of the same function. -/
theorem tile_second : k0_pay44 (k0_pay43 (k0_pay32 (k0_pay26 k0_pay2 qp kC) (k0_pay28 k0_pay2 qp qr kC kL))
      (k0_pay33 (k0_pay29 k0_pay2 qp qr kC kL)) (k0_pay34 (k0_pay26 k0_pay2 qp kC) (k0_pay28 k0_pay2 qp qr kC kL) (k0_pay29 k0_pay2 qp qr kC kL))
      (k0_pay39 k0_pay2 (k0_pay24 qp) (k0_pay25 qr) kC kL) (k0_pay40 k0_pay2 (k0_pay24 qp) (k0_pay25 qr) kC kL)
      (k0_pay41 k0_pay2 (k0_pay24 qp) (k0_pay25 qr) kC kL) (k0_pay42 k0_pay2 (k0_pay24 qp) (k0_pay25 qr) kC kL) lam vC vL g)
    = tile qp qr kC vC kL vL lam g := rfl

/-- The third group's spelling of the same function. -/
theorem tile_third : k0_pay65 (k0_pay64 (k0_pay53 (k0_pay47 k0_pay2 qp kC) (k0_pay49 k0_pay2 qp qr kC kL))
      (k0_pay54 (k0_pay50 k0_pay2 qp qr kC kL)) (k0_pay55 (k0_pay47 k0_pay2 qp kC) (k0_pay49 k0_pay2 qp qr kC kL) (k0_pay50 k0_pay2 qp qr kC kL))
      (k0_pay60 k0_pay2 (k0_pay45 qp) (k0_pay46 qr) kC kL) (k0_pay61 k0_pay2 (k0_pay45 qp) (k0_pay46 qr) kC kL)
      (k0_pay62 k0_pay2 (k0_pay45 qp) (k0_pay46 qr) kC kL) (k0_pay63 k0_pay2 (k0_pay45 qp) (k0_pay46 qr) kC kL) lam vC vL g)
    = tile qp qr kC vC kL vL lam g := rfl

/-- The fourth group's spelling of the same function. -/
theorem tile_fourth : k0_pay1 (k0_pay85 (k0_pay74 (k0_pay68 k0_pay2 qp kC) (k0_pay70 k0_pay2 qp qr kC kL))
      (k0_pay75 (k0_pay71 k0_pay2 qp qr kC kL)) (k0_pay76 (k0_pay68 k0_pay2 qp kC) (k0_pay70 k0_pay2 qp qr kC kL) (k0_pay71 k0_pay2 qp qr kC kL))
      (k0_pay81 k0_pay2 (k0_pay66 qp) (k0_pay67 qr) kC kL) (k0_pay82 k0_pay2 (k0_pay66 qp) (k0_pay67 qr) kC kL)
      (k0_pay83 k0_pay2 (k0_pay66 qp) (k0_pay67 qr) kC kL) (k0_pay84 k0_pay2 (k0_pay66 qp) (k0_pay67 qr) kC kL) lam vC vL g)
    = tile qp qr kC vC kL vL lam g := rfl

end

/-- Where a rectangle of unit stride puts an index. -/
theorem unit_val {s : Shape} (off size : Fin s.rank → ℕ) (inb : ∀ a, off a + size a ≤ s.size a)
    (j : (Rect.unit off size inb).shape.Idx) (a : Fin s.rank) : ((Rect.unit off size inb).idx j a).val = off a + (j a).val := by
  show off a + 1 * (j a).val = _
  omega

variable (m : (ℓ : Loc nD τ sig) → Buf (Elt Ideal) ℓ)

/-- A group whose arguments are read off the arrays computes the result's elements. -/
theorem piece (c : Dev nD) (qp qr kC vC : FVec Ideal S1x256x128 .bf16) (kL vL : FVec Ideal S1x4096x128 .bf16)
    (lam : FVec Ideal S1x1 .f32) (g : FVec Ideal S1x128 .f32) (x : S1x256x128.Idx) (i : S8x4096x512.Idx) (h : Fin 4)
    (hi : (i 2).val = h.val * 128 + (x 2).val)
    (hqp : ∀ l, qp (ix3 0 (x 1) l) = V m c main_v45 (ix3 (i 0) (latRow (i 1)) (lane h l)))
    (hqr : ∀ l, qr (ix3 0 (x 1) l) = V m c main_v56 (ix3 (i 0) (latRow (i 1)) (lane h l)))
    (hkC : ∀ j l, kC (ix3 0 j l) = V m c main_v68 (ix3 (i 0) (ctxRow j) (lane h l)))
    (hkL : ∀ j l, kL (ix3 0 j l) = V m c main_v68 (ix3 (i 0) (latRow j) (lane h l)))
    (hvC : ∀ j l, vC (ix3 0 j l) = V m c main_v70 (ix3 (i 0) (ctxRow j) (lane h l)))
    (hvL : ∀ j l, vL (ix3 0 j l) = V m c main_v70 (ix3 (i 0) (latRow j) (lane h l)))
    (hlam : lam (ix2 0 0) = V m c main_v83 (ix2 0 0)) (hg : ∀ d, g (ix2 0 d) = V m c main_v82 (ix2 0 d)) :
    tile qp qr kC vC kL vL lam g x = result m c i := by
  have h2 : (x 2).val < 128 := (x 2).isLt
  have e1 : (⟨(i 2).val / 128, Nat.div_lt_of_lt_mul (i 2).isLt⟩ : Fin 4) = h := by
    apply Fin.ext; show (i 2).val / 128 = h.val; rw [hi]; omega
  have e2 : (⟨(i 2).val % 128, Nat.mod_lt _ (by decide)⟩ : Fin 128) = x 2 := by
    apply Fin.ext; show (i 2).val % 128 = (x 2).val; rw [hi]; omega
  have ex : x = ix3 0 (x 1) (x 2) := by
    funext a; match a with
    | ⟨0, _⟩ => exact Fin.ext (by have := (x 0).isLt; show (x 0).val = 0; change (x 0).val < 1 at this; omega)
    | ⟨1, _⟩ => rfl
    | ⟨2, _⟩ => rfl
  have key := tile_apply qp qr kC vC kL vL lam g (x 1) (x 2)
  refine (congrArg _ ex).trans (key.trans ?_)
  rw [result, e1, e2]
  unfold outVal
  simp only [hqp, hqr, hkC, hkL, hvC, hvL, hlam]
  exact congrArg (fun z : EReal => _ * z) (hg (x 2))

/-- The coefficient's block at a point. -/
theorem lam_at (c : Dev nD) (t : Fin cfg0.N) (j i : S8x128.Idx) (h0 : (i 0).val = (j 0).val) (h1 : (i 1).val = (j 1).val) :
    iblk m c 5 t j = V m c main_v83 i := by
  blk_ext [iblk, idx t]

/-- The gain's block at a point. -/
theorem g_at (c : Dev nD) (t : Fin cfg0.N) (i : S1x128.Idx) : iblk m c 4 t i = V m c main_v82 i := by
  blk_ext [iblk, idx t]

/-- One group of a block: the rows from `o` on, of the arrays' blocks at a point. -/
theorem group (c : Dev nD) (t : Fin cfg0.N) (o : ℕ) (inb : ∀ a, (![0, o, 0] : Fin 3 → ℕ) a + (![1, 256, 128] : Fin 3 → ℕ) a ≤ S1x1024x128.size a)
    (x : S1x256x128.Idx) (y : ((cfg0.win 6).xblock (cfg0.grid.coords t)).Idx) (h1 : (y 1).val = o + (x 1).val) (h2 : (y 2).val = (x 2).val) :
    tile (View.ld (X0_0 m c t) (Rect.unit ![0, o, 0] ![1, 256, 128] inb)) (View.ld (X0_1 m c t) (Rect.unit ![0, o, 0] ![1, 256, 128] inb))
      (View.ld (iblk m c 2 t) (Rect.unit ![0, 4096, 0] ![1, 256, 128] inb_S1x4352x128_S1x256x128_0_4096_0))
      (View.ld (iblk m c 3 t) (Rect.unit ![0, 4096, 0] ![1, 256, 128] inb_S1x4352x128_S1x256x128_0_4096_0))
      (View.ld (iblk m c 2 t) (Rect.unit ![0, 0, 0] ![1, 4096, 128] inb_S1x4352x128_S1x4096x128_0_0_0))
      (View.ld (iblk m c 3 t) (Rect.unit ![0, 0, 0] ![1, 4096, 128] inb_S1x4352x128_S1x4096x128_0_0_0))
      (View.ld (iblk m c 5 t) (Rect.unit ![0, 0] ![1, 1] inb_S8x128_S1x1_0_0)) (iblk m c 4 t) x
    = result m c (((View.whole main_v84).slice (win0_6.rect t)).emb y) := by
  have f0 : (((View.whole main_v84).slice (win0_6.rect t)).emb y 0).val = t.val / 16 := by blk_simp [idx t]
  have f1 : (((View.whole main_v84).slice (win0_6.rect t)).emb y 1).val = t.val % 4 * 1024 + (y 1).val := by blk_simp [idx t]
  have f2 : (((View.whole main_v84).slice (win0_6.rect t)).emb y 2).val = t.val / 4 % 4 * 128 + (y 2).val := by blk_simp [idx t]
  generalize ((View.whole main_v84).slice (win0_6.rect t)).emb y = i at f0 f1 f2 ⊢
  have hr : ∀ l : Fin 128, ((Rect.unit (s := S1x1024x128) ![0, o, 0] ![1, 256, 128] inb).idx (ix3 0 (x 1) l) 1).val = (y 1).val :=
    fun l => (unit_val _ _ inb _ 1).trans h1.symm
  have hl : ∀ l : Fin 128, ((Rect.unit (s := S1x1024x128) ![0, o, 0] ![1, 256, 128] inb).idx (ix3 0 (x 1) l) 2).val = l.val :=
    fun l => (unit_val _ _ inb _ 2).trans (Nat.zero_add _)
  have hC : ∀ (j : Fin 256) (l : Fin 128), ((Rect.unit (s := S1x4352x128) ![0, 4096, 0] ![1, 256, 128] inb_S1x4352x128_S1x256x128_0_4096_0).idx (ix3 0 j l) 2).val = l.val :=
    fun j l => (unit_val _ _ _ _ 2).trans (Nat.zero_add _)
  have hC' : ∀ (j : Fin 256) (l : Fin 128), ((Rect.unit (s := S1x4352x128) ![0, 4096, 0] ![1, 256, 128] inb_S1x4352x128_S1x256x128_0_4096_0).idx (ix3 0 j l) 1).val = 4096 + j.val :=
    fun j l => unit_val _ _ _ _ 1
  have hL : ∀ (j : Fin 4096) (l : Fin 128), ((Rect.unit (s := S1x4352x128) ![0, 0, 0] ![1, 4096, 128] inb_S1x4352x128_S1x4096x128_0_0_0).idx (ix3 0 j l) 2).val = l.val :=
    fun j l => (unit_val _ _ _ _ 2).trans (Nat.zero_add _)
  have hL' : ∀ (j : Fin 4096) (l : Fin 128), ((Rect.unit (s := S1x4352x128) ![0, 0, 0] ![1, 4096, 128] inb_S1x4352x128_S1x4096x128_0_0_0).idx (ix3 0 j l) 1).val = j.val :=
    fun j l => (unit_val _ _ _ _ 1).trans (Nat.zero_add _)
  refine piece m c _ _ _ _ _ _ _ _ x _ ⟨t.val / 4 % 4, by omega⟩ (f2.trans (congrArg _ h2)) (fun l => ?_) (fun l => ?_) (fun j l => ?_)
    (fun j l => ?_) (fun j l => ?_) (fun j l => ?_) ?_ (fun d => ?_)
  · exact X0_at m c t _ _ f0 (f1.trans (congrArg _ (hr l).symm)) (congrArg _ (hl l).symm)
  · exact X1_at m c t _ _ f0 (f1.trans (congrArg _ (hr l).symm)) (congrArg _ (hl l).symm)
  · exact K_at m c t _ _ f0 (hC' j l).symm (congrArg _ (hC j l).symm)
  · exact K_at m c t _ _ f0 (hL' j l).symm (congrArg _ (hL j l).symm)
  · exact W_at m c t _ _ f0 (hC' j l).symm (congrArg _ (hC j l).symm)
  · exact W_at m c t _ _ f0 (hL' j l).symm (congrArg _ (hL j l).symm)
  · exact lam_at m c t _ _ rfl rfl
  · exact g_at m c t _

/-- What the result array holds once the grid is done. -/
theorem final (c : Dev nD) : (dats m 0 c).arrAt 6 cfg0.N = result m c := by
  refine (dats m 0 c).arrAt_eq_of_covers 6 _ (by decide +kernel) fun t hf y => ?_
  blk_simp
  rw [after0_6]; unfold outsAt0; frame_out
  canon_tiles x h
  case piece0 => exact (congrFun (tile_fourth _ _ _ _ _ _ _ _) x).trans (group m c t 768 _ x y h1 h2)
  case piece1 => exact (congrFun (tile_third _ _ _ _ _ _ _ _) x).trans (group m c t 512 _ x y h1 h2)
  case piece2 => exact (congrFun (tile_second _ _ _ _ _ _ _ _) x).trans (group m c t 256 _ x y h1 h2)
  case piece3 => exact group m c t 0 _ x y (h1.trans (Nat.zero_add _).symm) h2

end Cert.Attn

end
-- ==== Proof.Rope.lean ====
/- The rotation of queries and keys by position, and the scaled scores, over the reals. -/
module

public import proofs.«01_k».proof.Proof.Block

@[expose] public section

noncomputable section

namespace Cert.Attn

open Idealize.ShloMosaic

/-- The inverse frequency of pair `x`. -/
def freq (x : ℕ) : EReal :=
  Ideal.pow (Ideal.ofBits FTy.f32 1176256512#32)
    (Ideal.div (-(FloatOps.sitofp FTy.f32 (BitVec.ofNat 32 x) : Ideal .f32)) (Ideal.ofBits FTy.f32 1098907648#32))

/-- The angle of pair `x` at position `q`: the first sixteen pairs turn with the row, the others with the column. -/
def angle (q x : ℕ) : EReal :=
  if x < 16 then (FloatOps.sitofp FTy.f32 (BitVec.ofNat 32 (q / 64)) : Ideal .f32) * freq x
  else (FloatOps.sitofp FTy.f32 (BitVec.ofNat 32 (q % 64)) : Ideal .f32) * freq (x - 16)

/-- The angle as a real number. -/
def turn (q x : ℕ) : ℝ := (angle q x).toReal

/-- An inverse frequency is a real number. -/
theorem freq_real (x : ℕ) : ∃ r : ℝ, freq x = (r : EReal) := by
  have h1 : Ideal.ofBits FTy.f32 1176256512#32 = ((10000 : ℝ) : EReal) := by
    simp [Ideal.ofBits, Ideal.ieee]; norm_num [← EReal.coe_mul]
  have h2 : Ideal.ofBits FTy.f32 1098907648#32 = ((16 : ℝ) : EReal) := by
    simp [Ideal.ofBits, Ideal.ieee]; norm_num [← EReal.coe_mul]
  have h3 : (-(FloatOps.sitofp FTy.f32 (BitVec.ofNat 32 x) : Ideal .f32) : EReal) = ((-((BitVec.ofNat 32 x).toInt : ℝ) : ℝ) : EReal) :=
    (EReal.coe_neg _).symm
  refine ⟨Real.rpow 10000 (-((BitVec.ofNat 32 x).toInt : ℝ) / 16), ?_⟩
  unfold freq
  rw [h1, h2, h3, div_real _ _ (by norm_num), Ideal.pow_coe_coe]

/-- Every angle is a real number. -/
theorem angle_real (q x : ℕ) : angle q x = (turn q x : EReal) := by
  have h : ∃ r : ℝ, angle q x = (r : EReal) := by
    unfold angle
    split
    · obtain ⟨r, hr⟩ := freq_real x
      exact ⟨((BitVec.ofNat 32 (q / 64)).toInt : ℝ) * r, by rw [hr, EReal.coe_mul]; rfl⟩
    · obtain ⟨r, hr⟩ := freq_real (x - 16)
      exact ⟨((BitVec.ofNat 32 (q % 64)).toInt : ℝ) * r, by rw [hr, EReal.coe_mul]; rfl⟩
  obtain ⟨r, hr⟩ := h
  rw [turn, hr, EReal.toReal_coe]

/-- The cosine of the angle is a real cosine. -/
theorem cos_angle (q x : ℕ) : Ideal.cos (angle q x) = ((Real.cos (turn q x) : ℝ) : EReal) := by
  rw [angle_real, Ideal.cos_coe]

/-- The sine of the angle is a real sine. -/
theorem sin_angle (q x : ℕ) : Ideal.sin (angle q x) = ((Real.sin (turn q x) : ℝ) : EReal) := by
  rw [angle_real, Ideal.sin_coe]

/-- A row of 512 lanes, every 64 of them rotated by position `q`: lane `x` of the 64 is paired with lane `x + 32`. -/
def rot (A : Fin 512 → ℝ) (q : ℕ) (l : Fin 512) : ℝ :=
  if h : l.val % 64 < 32 then
    A l * Real.cos (turn q (l.val % 64)) - A ⟨l.val + 32, by omega⟩ * Real.sin (turn q (l.val % 64))
  else A l * Real.cos (turn q (l.val % 64 - 32)) + A ⟨l.val - 32, by omega⟩ * Real.sin (turn q (l.val % 64 - 32))

/-- Lane `x` of map `p` of head `h`. -/
def part (h : Fin 4) (p : Fin 2) (x : Fin 64) : Fin 512 := ⟨h.val * 128 + p.val * 64 + x.val, by omega⟩

/-- The first and the second half of a map's lanes. -/
def partL (h : Fin 4) (p : Fin 2) (x : Fin 32) : Fin 512 := ⟨h.val * 128 + p.val * 64 + x.val, by omega⟩
/-- The lane of the second half of map `p` of head `h`, its pair with the first half being lane `partL`. -/
def partH (h : Fin 4) (p : Fin 2) (x : Fin 32) : Fin 512 := ⟨h.val * 128 + p.val * 64 + (32 + x.val), by omega⟩

/-- The scaled score of map `p` of head `h`. -/
def score (h : Fin 4) (p : Fin 2) (A B : Fin 512 → ℝ) : ℝ := (∑ x, A (part h p x) * B (part h p x)) * 0.125

/-- A lane of the first half after the rotation. -/
theorem rot_partL (A : Fin 512 → ℝ) (q : ℕ) (h : Fin 4) (p : Fin 2) (x : Fin 32) :
    rot A q (partL h p x) = A (partL h p x) * Real.cos (turn q x) - A (partH h p x) * Real.sin (turn q x) := by
  have e : (partL h p x).val % 64 = x.val := by simp only [partL]; omega
  have hlt : (partL h p x).val % 64 < 32 := by omega
  have hH : (⟨(partL h p x).val + 32, by simp only [partL]; omega⟩ : Fin 512) = partH h p x := by
    apply Fin.ext; simp only [partL, partH]; omega
  rw [rot, dif_pos hlt, hH, e]

/-- A lane of the second half after the rotation. -/
theorem rot_partH (A : Fin 512 → ℝ) (q : ℕ) (h : Fin 4) (p : Fin 2) (x : Fin 32) :
    rot A q (partH h p x) = A (partL h p x) * Real.sin (turn q x) + A (partH h p x) * Real.cos (turn q x) := by
  have e : (partH h p x).val % 64 = 32 + x.val := by simp only [partH]; omega
  have hlt : ¬ (partH h p x).val % 64 < 32 := by omega
  have hL : (⟨(partH h p x).val - 32, by simp only [partH]; omega⟩ : Fin 512) = partL h p x := by
    apply Fin.ext; simp only [partL, partH]; omega
  have e2 : (partH h p x).val % 64 - 32 = x.val := by omega
  rw [rot, dif_neg hlt, hL, e2, add_comm]

/-- The score of two rotated rows, the pairs' two lanes summed apart as the reference's concatenation lays them. -/
theorem score_rot (h : Fin 4) (p : Fin 2) (A B : Fin 512 → ℝ) (q j : ℕ) :
    score h p (rot A q) (rot B j)
      = ((∑ x, (A (partL h p x) * Real.cos (turn q x) - A (partH h p x) * Real.sin (turn q x))
            * (B (partL h p x) * Real.cos (turn j x) - B (partH h p x) * Real.sin (turn j x)))
          + ∑ x, (A (partL h p x) * Real.sin (turn q x) + A (partH h p x) * Real.cos (turn q x))
            * (B (partL h p x) * Real.sin (turn j x) + B (partH h p x) * Real.cos (turn j x))) * 0.125 := by
  unfold score
  congr 1
  refine (Fin.sum_univ_add (a := 32) (b := 32) fun x : Fin 64 => rot A q (part h p x) * rot B j (part h p x)).trans ?_
  congr 1
  · refine Finset.sum_congr rfl fun x _ => ?_
    rw [← rot_partL, ← rot_partL]; rfl
  · refine Finset.sum_congr rfl fun x _ => ?_
    rw [← rot_partH, ← rot_partH]; rfl

/-- The kernel's score of the first map is the scaled score in units of log₂ e. -/
theorem low_real (h : Fin 4) (A B : Fin 512 → ℝ) :
    low (fun x => (A (lane h x) : EReal)) (fun x => (B (lane h x) : EReal)) = ((score h 0 A B * log2e : ℝ) : EReal) := by
  unfold low
  have e : ∀ x : Fin 128, (if x.val < 64 then (A (lane h x) : EReal) * qScale * (B (lane h x) : EReal) else 0)
      = (((if x.val < 64 then A (lane h x) * (0.125 * log2e) * B (lane h x) else 0) : ℝ) : EReal) := by
    intro x
    split
    · rw [qScale_eq, ← EReal.coe_mul, ← EReal.coe_mul]
    · rfl
  rw [Finset.sum_congr rfl fun x _ => e x, sum_coe, EReal.coe_eq_coe_iff]
  refine (Fin.sum_univ_add (a := 64) (b := 64) fun x : Fin 128 =>
    if x.val < 64 then A (lane h x) * (0.125 * log2e) * B (lane h x) else 0).trans ?_
  rw [Finset.sum_eq_zero (s := Finset.univ) (f := fun i : Fin 64 => if (Fin.natAdd 64 i : Fin 128).val < 64 then _ else (0 : ℝ))
    fun i _ => if_neg (by simp), add_zero, score, mul_assoc, Finset.sum_mul]
  refine Finset.sum_congr rfl fun x _ => ?_
  have hl : lane h (Fin.castAdd 64 x) = part h 0 x := by apply Fin.ext; simp [lane, part]
  rw [if_pos (by simp), hl]; ring

/-- The kernel's score of the second map is the scaled score in units of log₂ e. -/
theorem high_real (h : Fin 4) (A B : Fin 512 → ℝ) :
    high (fun x => (A (lane h x) : EReal)) (fun x => (B (lane h x) : EReal)) = ((score h 1 A B * log2e : ℝ) : EReal) := by
  unfold high
  have e : ∀ x : Fin 128, (if x.val < 64 then 0 else (A (lane h x) : EReal) * qScale * (B (lane h x) : EReal))
      = (((if x.val < 64 then 0 else A (lane h x) * (0.125 * log2e) * B (lane h x)) : ℝ) : EReal) := by
    intro x
    split
    · rfl
    · rw [qScale_eq, ← EReal.coe_mul, ← EReal.coe_mul]
  rw [Finset.sum_congr rfl fun x _ => e x, sum_coe, EReal.coe_eq_coe_iff]
  refine (Fin.sum_univ_add (a := 64) (b := 64) fun x : Fin 128 =>
    if x.val < 64 then 0 else A (lane h x) * (0.125 * log2e) * B (lane h x)).trans ?_
  rw [Finset.sum_eq_zero (s := Finset.univ) (f := fun i : Fin 64 => if (Fin.castAdd 64 i : Fin 128).val < 64 then (0 : ℝ) else _)
    fun i _ => if_pos (by simp), zero_add, score, mul_assoc, Finset.sum_mul]
  refine Finset.sum_congr rfl fun x _ => ?_
  have hl : lane h (Fin.natAdd 64 x) = part h 1 x := by apply Fin.ext; simp [lane, part]; omega
  rw [if_neg (by simp), hl]; ring

/-- The coefficient of the second map, from its four vectors and its offset. -/
def coef (a₁ b₁ a₂ b₂ : Fin 64 → EReal) (l : EReal) : EReal := Ideal.exp (∑ x, a₁ x * b₁ x) - Ideal.exp (∑ x, a₂ x * b₂ x) + l

/-- The gain with the factor that the difference of maps is given. -/
def gain (g l : EReal) : EReal := g * (1 - l)

end Cert.Attn

end
-- ==== Proof.Host.lean ====
/- The arrays that the host prepares for the kernel, at an index, from real queries and keys. -/
module

public import proofs.«01_k».proof.Proof.Rope
public import Idealize.ShloMosaic.Lib.Tactic.CleanTypes
public import Idealize.ShloMosaic.Lib.StableHlo.RunRead
public import Idealize.ShloMosaic.Lib.Pointwise

@[expose] public section

set_option maxRecDepth 16384

noncomputable section

namespace Cert.Attn

open Cert.KernelIdeal Cert.KernelIdeal.Gen Idealize.ShloMosaic Idealize.ShloMosaic.TcCoe Idealize.SL.Sem

/-- Two joined arrays are equal where their parts are. -/
theorem joined_congr {α : Type} (t : Shape) (d : Fin t.rank) (s s' : Shape) (x x' : s.Idx → α) (y y' : s'.Idx → α)
    (h : Shape.Concatenates ([(⟨s, x⟩ : (s : Shape) × (s.Idx → α)), ⟨s', y⟩].map (·.1)) t d) (hx : x = x') (hy : y = y') :
    concatenate t d [⟨s, x⟩, ⟨s', y⟩] h = concatenate t d [⟨s, x'⟩, ⟨s', y'⟩] (by subst hx hy; exact h) := by
  subst hx hy; rfl

attribute [local congr] joined_congr

variable (m : (ℓ : Loc nD τ sig) → Buf (Elt Ideal) ℓ) (c : Dev nD) (b : Fin 8)

/-- The contents once the tables and the joined queries are there. -/
def early : Valuation τ sig (Elt Ideal) := StableHlo.after hostOps0 (fun b => m (c, b))

/-- The operations after those. -/
def late := hostOps0_1 (F := Ideal) ++ hostOps0_2 ++ hostOps0_3 ++ hostOps0_4 ++ hostOps0_5 ++ hostOps0_6 ++ hostOps0_7 ++ hostOps0_8

/-- The region is entered with the contents that the later host operations make of the earlier ones. -/
theorem V_late (r) : V m c r = StableHlo.after late (early m c) r := by
  unfold V late early
  simp only [List.flatten_cons, List.flatten_nil, List.append_nil, List.append_assoc, StableHlo.after_append]

/-- The cosine's table: every 64 lanes alike, and one on the context's rows. -/
theorem cos_at (q : Fin 4352) (l : Fin 512) : (early m c main_v36 (ix2 q l) : EReal)
    = if q.val < 4096 then ((Real.cos (turn q.val (if l.val % 64 < 32 then l.val % 64 else l.val % 64 - 32)) : ℝ) : EReal) else 1 := by
  unfold early
  after_reads_simp
  all_goals try simp -implicitDefEqProofs only [StableHlo.TRef.toBuf, StableHlo.TRef.ofBuf, cast_cast, cast_eq]
  clean_types
  pointwise
  split
  · rw [← cos_angle]
    split <;> rfl
  · rfl

/-- The sine's table, the first half of every 64 lanes negated, and zero on the context's rows. -/
theorem sin_at (q : Fin 4352) (l : Fin 512) : (early m c main_v38 (ix2 q l) : EReal)
    = if q.val < 4096 then (if l.val % 64 < 32 then -((Real.sin (turn q.val (l.val % 64)) : ℝ) : EReal)
        else ((Real.sin (turn q.val (l.val % 64 - 32)) : ℝ) : EReal)) else 0 := by
  unfold early
  after_reads_simp
  all_goals try simp -implicitDefEqProofs only [StableHlo.TRef.toBuf, StableHlo.TRef.ofBuf, cast_cast, cast_eq]
  clean_types
  pointwise
  rw [← sin_angle, ← sin_angle]
  rfl

/-- The mask of the first half of every 64 lanes. -/
theorem mask_at (l : Fin 512) : (early m c main_v43 (ix2 0 l) : BitVec 1) = if l.val % 64 < 32 then 1#1 else 0#1 := by
  unfold early
  after_reads_simp
  all_goals try simp -implicitDefEqProofs only [StableHlo.TRef.toBuf, StableHlo.TRef.ofBuf, cast_cast, cast_eq]
  clean_types
  pointwise
  revert l
  decide +kernel

/-- The queries joined. -/
theorem early_q (q : Fin 4352) (l : Fin 512) : (early m c main_v44 (ix3 b q l) : EReal)
    = if h : q.val < 4096 then m (c, Proc.tc.devRef main_arg0) (ix3 b ⟨q.val, h⟩ l)
      else m (c, Proc.tc.devRef main_arg3) (ix3 b ⟨q.val - 4096, by omega⟩ l) := by
  unfold early
  after_reads_simp
  all_goals try simp -implicitDefEqProofs only [StableHlo.TRef.toBuf, StableHlo.TRef.ofBuf, cast_cast, cast_eq]
  clean_types
  pointwise

/-- The earlier host operations leave the latents' keys as they were. -/
theorem early_k (q : Fin 4096) (l : Fin 512) : (early m c main_arg1 (ix3 b q l) : EReal) = m (c, Proc.tc.devRef main_arg1) (ix3 b q l) := by
  unfold early
  after_reads_simp

/-- The earlier host operations leave the context's keys as they were. -/
theorem early_c (q : Fin 256) (l : Fin 512) : (early m c main_arg4 (ix3 b q l) : EReal) = m (c, Proc.tc.devRef main_arg4) (ix3 b q l) := by
  unfold early
  after_reads_simp

/-- A set condition selects the first value. -/
theorem select_one (a b : EReal) : Scalar.select (1#1) a b = a := rfl

/-- A clear condition selects the second value. -/
theorem select_zero (a b : EReal) : Scalar.select (0#1) a b = b := rfl

/-- A row of lanes rotated as the kernel's host does it: each lane times the cosine's table, plus its partner times the sine's. -/
def turned (A : Fin 512 → EReal) (q : Fin 4352) (l : Fin 512) : EReal :=
  A l * early m c main_v36 (ix2 q l)
    + Scalar.select (early m c main_v43 (ix2 0 l))
        (if h : l.val < 480 then A ⟨32 + l.val, by omega⟩ else A ⟨l.val - 480, by omega⟩)
        (if h : l.val < 32 then A ⟨480 + l.val, by omega⟩ else A ⟨l.val - 32, by omega⟩)
      * early m c main_v38 (ix2 q l)

/-- On a latent's row of real lanes that is the rotation. -/
theorem turned_lat (A : Fin 512 → EReal) (B : Fin 512 → ℝ) (hA : ∀ l, A l = (B l : EReal)) (q : Fin 4096) (l : Fin 512) :
    turned m c A (latRow q) l = (rot B q.val l : EReal) := by
  obtain rfl : A = fun l => (B l : EReal) := funext hA
  have hq : (latRow q).val < 4096 := q.isLt
  unfold turned rot
  rw [cos_at, sin_at, mask_at, if_pos hq, if_pos hq]
  by_cases h : l.val % 64 < 32
  · have h1 : l.val < 480 := by omega
    have e : (⟨32 + l.val, by omega⟩ : Fin 512) = ⟨l.val + 32, by omega⟩ := Fin.ext (Nat.add_comm _ _)
    rw [if_pos h, if_pos h, if_pos h, dif_pos h, dif_pos h1, select_one, EReal.coe_sub, EReal.coe_mul, EReal.coe_mul,
      mul_neg, ← sub_eq_add_neg]
    rw [e]
    rfl
  · have h1 : ¬ l.val < 32 := by omega
    rw [if_neg h, if_neg h, if_neg h, dif_neg h, dif_neg h1, select_zero, EReal.coe_add, EReal.coe_mul, EReal.coe_mul]
    rfl

/-- On a context's row it is the row. -/
theorem turned_ctx (A : Fin 512 → EReal) (j : Fin 256) (l : Fin 512) : turned m c A (ctxRow j) l = A l := by
  have hq : ¬ (ctxRow j).val < 4096 := by simp [ctxRow]
  unfold turned
  rw [cos_at, sin_at, if_neg hq, if_neg hq, mul_one, mul_zero, add_zero]

/-- The rotated queries that the region is given are the joined queries, each row turned. -/
theorem rotated_q (q : Fin 4352) (l : Fin 512) : (V m c main_v56 (ix3 b q l) : EReal)
    = turned m c (fun l => early m c main_v44 (ix3 b q l)) q l := by
  rw [V_late]
  unfold late
  after_reads_simp
  all_goals try simp -implicitDefEqProofs only [StableHlo.TRef.toBuf, StableHlo.TRef.ofBuf, cast_cast, cast_eq]
  clean_types
  pointwise [turned]

/-- The keys that the region is given are the latents' keys and then the context's, each row turned. -/
theorem rotated_k (q : Fin 4352) (l : Fin 512) : (V m c main_v68 (ix3 b q l) : EReal)
    = turned m c (fun l => if h : q.val < 4096 then early m c main_arg1 (ix3 b ⟨q.val, h⟩ l)
        else early m c main_arg4 (ix3 b ⟨q.val - 4096, by omega⟩ l)) q l := by
  rw [V_late]
  unfold late
  after_reads_simp
  all_goals try simp -implicitDefEqProofs only [StableHlo.TRef.toBuf, StableHlo.TRef.ofBuf, cast_cast, cast_eq]
  clean_types
  pointwise [turned]

/-- The queries that the region is given without rotation are the joined queries. -/
theorem plain_q (q : Fin 4352) (l : Fin 512) : (V m c main_v45 (ix3 b q l) : EReal) = early m c main_v44 (ix3 b q l) := by
  rw [V_late]
  unfold late early
  after_reads_simp
  all_goals try simp -implicitDefEqProofs only [StableHlo.TRef.toBuf, StableHlo.TRef.ofBuf, cast_cast, cast_eq]
  clean_types
  pointwise

section
variable (Q K : Fin 8 → Fin 4096 → Fin 512 → ℝ) (C : Fin 8 → Fin 256 → Fin 512 → ℝ)
  (hQ : ∀ b q l, (m (c, Proc.tc.devRef main_arg0) (ix3 b q l) : EReal) = (Q b q l : EReal))
  (hK : ∀ b q l, (m (c, Proc.tc.devRef main_arg1) (ix3 b q l) : EReal) = (K b q l : EReal))
  (hC : ∀ b q l, (m (c, Proc.tc.devRef main_arg4) (ix3 b q l) : EReal) = (C b q l : EReal))

include hQ in
/-- The joined queries on the latents' rows are the latents' queries. -/
theorem early_lat (q : Fin 4096) (l : Fin 512) : (early m c main_v44 (ix3 b (latRow q) l) : EReal) = (Q b q l : EReal) := by
  rw [early_q, dif_pos (show (latRow q).val < 4096 from q.isLt)]
  exact hQ b q l

include hQ in
/-- The queries as they are. -/
theorem q_plain (q : Fin 4096) (l : Fin 512) : (V m c main_v45 (ix3 b (latRow q) l) : EReal) = (Q b q l : EReal) := by
  rw [plain_q]
  exact early_lat m c b Q hQ q l

include hQ in
/-- The queries rotated. -/
theorem q_rot (q : Fin 4096) (l : Fin 512) : (V m c main_v56 (ix3 b (latRow q) l) : EReal) = (rot (Q b q) q.val l : EReal) := by
  rw [rotated_q]
  exact turned_lat m c _ (Q b q) (fun l => early_lat m c b Q hQ q l) q l

include hK in
/-- The latents' keys, rotated. -/
theorem k_lat (q : Fin 4096) (l : Fin 512) : (V m c main_v68 (ix3 b (latRow q) l) : EReal) = (rot (K b q) q.val l : EReal) := by
  rw [rotated_k]
  refine turned_lat m c _ (K b q) (fun l => ?_) q l
  rw [dif_pos (show (latRow q).val < 4096 from q.isLt), early_k]
  exact hK b q l

include hC in
/-- The context's keys, as they are. -/
theorem k_ctx (j : Fin 256) (l : Fin 512) : (V m c main_v68 (ix3 b (ctxRow j) l) : EReal) = (C b j l : EReal) := by
  rw [rotated_k, turned_ctx, dif_neg (show ¬ (ctxRow j).val < 4096 by simp [ctxRow]), early_c, ← hC]
  have e : (⟨(ctxRow j).val - 4096, by simp only [ctxRow]; omega⟩ : Fin 256) = j := Fin.ext (Nat.add_sub_cancel_left _ _)
  exact congrArg (fun j : Fin 256 => (m (c, Proc.tc.devRef main_arg4) (ix3 b j l) : EReal)) e
end

/-- The values, joined. -/
theorem v_at (q : Fin 4352) (l : Fin 512) : (V m c main_v70 (ix3 b q l) : EReal)
    = if h : q.val < 4096 then m (c, Proc.tc.devRef main_arg2) (ix3 b ⟨q.val, h⟩ l)
      else m (c, Proc.tc.devRef main_arg5) (ix3 b ⟨q.val - 4096, by omega⟩ l) := by
  rw [V_late]
  unfold late early
  after_reads_simp
  all_goals try simp -implicitDefEqProofs only [StableHlo.TRef.toBuf, StableHlo.TRef.ofBuf, cast_cast, cast_eq]
  clean_types
  pointwise

/-- The gain with its factor. -/
theorem gain_at (l : Fin 128) : (V m c main_v82 (ix2 0 l) : EReal)
    = gain (m (c, Proc.tc.devRef main_arg11) (ix1 l)) (m (c, Proc.tc.devRef main_arg10) ix0) := by
  rw [V_late]
  unfold late early
  after_reads_simp
  all_goals try simp -implicitDefEqProofs only [StableHlo.TRef.toBuf, StableHlo.TRef.ofBuf, cast_cast, cast_eq]
  clean_types
  pointwise [gain]

/-- The coefficient of the second map. -/
theorem coef_host : (V m c main_v83 (ix2 0 0) : EReal)
    = coef (fun x => m (c, Proc.tc.devRef main_arg6) (ix1 x)) (fun x => m (c, Proc.tc.devRef main_arg7) (ix1 x))
        (fun x => m (c, Proc.tc.devRef main_arg8) (ix1 x)) (fun x => m (c, Proc.tc.devRef main_arg9) (ix1 x))
        (m (c, Proc.tc.devRef main_arg10) ix0) := by
  rw [V_late]
  unfold late early
  after_reads_simp
  all_goals try simp -implicitDefEqProofs only [StableHlo.TRef.toBuf, StableHlo.TRef.ofBuf, cast_cast, cast_eq]
  clean_types
  pointwise [coef]

end Cert.Attn

end
-- ==== Proof.RefValue.lean ====
/- What the reference computes at an index, from real queries and keys. -/
module

public import proofs.«01_k».proof.Proof.Gen.ReferenceIdeal.Run
public import proofs.«01_k».proof.Proof.Rope
public import Idealize.ShloMosaic.Lib.Pointwise

@[expose] public section

set_option maxRecDepth 16384

noncomputable section

namespace Cert.Attn

open Cert.ReferenceIdeal Cert.ReferenceIdeal.Gen Cert.ReferenceIdeal.Value Idealize.ShloMosaic Idealize.ShloMosaic.TcCoe Idealize.SL.Sem Idealize.ShloMosaic.StableHlo

section
variable (w : FVec Ideal S8x4x2x4096x4352 .f32) (z : FVec Ideal S_ .f32) (b : Fin 8) (h : Fin 4) (p : Fin 2) (q : Fin 4096)

/-- The powers of e of the scores, each less its row's maximum, the maximum taken from `z` on. -/
def powers : FVec Ideal S8x4x2x4096x4352 .f32 :=
  Host.exp (subf w (broadcastInDim S8x4x2x4096x4352 ![0, 1, 2, 3, 4] bcast_S8x4x2x4096x1_S8x4x2x4096x4352_0_1_2_3_4
    (broadcastInDim S8x4x2x4096x1 ![0, 1, 2, 3] bcast_S8x4x2x4096_S8x4x2x4096x1_0_1_2_3
      (maximumf (broadcastInDim S8x4x2x4096 ![] bcast_S_S8x4x2x4096 z)
        (Host.reduce FloatOps.maximumf w z reducesTo_S8x4x2x4096x4352_S8x4x2x4096_d4 h_S_)))))

/-- A power read at one key: the exponential of the score less the greatest score of its row. -/
theorem powers_at (j : Fin 4352) : powers w z (ix5 b h p q j) = Ideal.exp (w (ix5 b h p q j) -
    max (z ix0) (Finset.univ.fold max (z ix0) fun j => w (ix5 b h p q j))) := by
  pointwise [powers]
  rw [show (Shape.Idx.first h_S_ : S_.Idx) = ix0 from funext fun a => a.elim0]

/-- Each element divided by the sum of its row. -/
def shares : FVec Ideal S8x4x2x4096x4352 .f32 :=
  Host.divf w (broadcastInDim S8x4x2x4096x4352 ![0, 1, 2, 3, 4] bcast_S8x4x2x4096x1_S8x4x2x4096x4352_0_1_2_3_4
    (broadcastInDim S8x4x2x4096x1 ![0, 1, 2, 3] bcast_S8x4x2x4096_S8x4x2x4096x1_0_1_2_3
      (Host.reduceAdd w (constant S_ .f32 0x00000000#32) reducesTo_S8x4x2x4096x4352_S8x4x2x4096_d4 h_S_)))

/-- A share read at one key: the element over the sum of its row. -/
theorem shares_at (j : Fin 4352) :
    shares w (ix5 b h p q j) = Ideal.div (w (ix5 b h p q j)) (∑ j, w (ix5 b h p q j)) := by
  pointwise [shares]

/-- The weights applied to the values, a sum over all the keys. -/
theorem over (A : FVec Ideal S8x4x4096x4352 .f32) (B : FVec Ideal S8x4x4352x128 .f32) (d : Fin 128) :
    Host.dotGeneral dot_S8x4x4096x4352_S8x4x4352x128_S8x4x4096x128_3_2_2_3_01_01 none A B (ix4 b h q d)
      = ∑ j : Fin 4352, A (ix4 b h q j) * B (ix4 b h j d) := by
  pointwise

/-- The result's array from the attended rows, the gain and the maps' offset. -/
def out (o : FVec Ideal S8x4x4096x128 .f32) (g : FVec Ideal S128 .f32) (l : FVec Ideal S_ .f32) : FVec Ideal S8x4096x512 .bf16 :=
  truncf .bf16 (shapeCast S8x4096x512 (transpose S8x4096x4x128 [0, 2, 1, 3] (mulf (mulf (mulf o
      (broadcastInDim S8x4x4096x128 ![0, 1, 2, 3] bcast_S8x4x4096x1_S8x4x4096x128_0_1_2_3 (Host.rsqrt (addf (Host.divf
        (broadcastInDim S8x4x4096x1 ![0, 1, 2] bcast_S8x4x4096_S8x4x4096x1_0_1_2 (Host.reduceAdd (mulf o o)
          (constant S_ .f32 0x00000000#32) reducesTo_S8x4x4096x128_S8x4x4096_d3 h_S_))
        (broadcastInDim S8x4x4096x1 ![] bcast_S_S8x4x4096x1 (constant S_ .f32 0x43000000#32)))
        (broadcastInDim S8x4x4096x1 ![] bcast_S_S8x4x4096x1 (constant S_ .f32 0x358637BD#32))))))
      (broadcastInDim S8x4x4096x128 ![0, 1, 2, 3] bcast_S1x1x1x128_S8x4x4096x128_0_1_2_3
        (broadcastInDim S1x1x1x128 ![3] bcast_S128_S1x1x1x128_3 g)))
      (broadcastInDim S8x4x4096x128 ![] bcast_S_S8x4x4096x128 (subf (constant S_ .f32 0x3F800000#32) l)))
      transposes_S8x4x4096x128_S8x4096x4x128_0_2_1_3) shapeCasts_S8x4096x4x128_S8x4096x512) bitsLt_bf16_f32

/-- The result's element: the attended row divided by its root mean square, times the gain. -/
theorem out_at (o : FVec Ideal S8x4x4096x128 .f32) (g : FVec Ideal S128 .f32) (l : FVec Ideal S_ .f32) (x : Fin 512) :
    out o g l (ix3 b q x)
      = normed (fun d => o (ix4 b ⟨x.val / 128, by omega⟩ q d)) ⟨x.val % 128, by omega⟩
          * (g (ix1 ⟨x.val % 128, by omega⟩) * (1 - l ix0)) := by
  rw [← mul_assoc]
  pointwise [out, normed]
end

/-- The scaled scores of one query against every key: the context's unrotated, then the latents' rotated. -/
def logit (Q : Fin 8 → Fin 4096 → Fin 512 → ℝ) (K : Fin 8 → Fin 4096 → Fin 512 → ℝ) (C : Fin 8 → Fin 256 → Fin 512 → ℝ)
    (b : Fin 8) (h : Fin 4) (p : Fin 2) (q : Fin 4096) (j : Fin 4352) : ℝ :=
  if hj : j.val < 256 then score h p (Q b q) (C b ⟨j.val, hj⟩)
  else score h p (rot (Q b q) q.val) (rot (K b ⟨j.val - 256, by omega⟩) (j.val - 256))

/-- The values of every key at one lane: the context's, then the latents'. -/
def column (vC : FVec Ideal S8x256x512 .f32) (vL : FVec Ideal S8x4096x512 .f32) (b : Fin 8) (h : Fin 4) (d : Fin 128)
    (j : Fin 4352) : EReal :=
  if hj : j.val < 256 then vC (ix3 b ⟨j.val, hj⟩ (lane h d)) else vL (ix3 b ⟨j.val - 256, by omega⟩ (lane h d))

section
variable (w : FVec Ideal S8x4x2x4096x4352 .f32) (z : FVec Ideal S_ .f32) (b : Fin 8) (h : Fin 4) (q : Fin 4096) (j : Fin 4352)

/-- The difference of the two maps' weights. -/
theorem mix_at : subf (shapeCast S8x4x4096x4352 (extractStridedSlice S8x4x1x4096x4352 ![0, 0, 0, 0, 0] w slices_S8x4x2x4096x4352_S8x4x1x4096x4352_0_0_0_0_0) shapeCasts_S8x4x1x4096x4352_S8x4x4096x4352)
      (mulf (broadcastInDim S8x4x4096x4352 ![] bcast_S_S8x4x4096x4352 z)
        (shapeCast S8x4x4096x4352 (extractStridedSlice S8x4x1x4096x4352 ![0, 0, 1, 0, 0] w slices_S8x4x2x4096x4352_S8x4x1x4096x4352_0_0_1_0_0) shapeCasts_S8x4x1x4096x4352_S8x4x4096x4352))
      (ix4 b h q j) = w (ix5 b h 0 q j) - z ix0 * w (ix5 b h 1 q j) := by
  pointwise

/-- The coefficient as the reference computes it. -/
theorem coef_at (a₁ b₁ a₂ b₂ : FVec Ideal S64 .f32) :
    addf (subf (Host.exp (Host.reduceAdd (mulf a₁ b₁) (constant S_ .f32 0x00000000#32) reducesTo_S64_S_d0 h_S_))
      (Host.exp (Host.reduceAdd (mulf a₂ b₂) (constant S_ .f32 0x00000000#32) reducesTo_S64_S_d0 h_S_))) z ix0
      = coef (fun x => a₁ (ix1 x)) (fun x => b₁ (ix1 x)) (fun x => a₂ (ix1 x)) (fun x => b₂ (ix1 x)) (z ix0) := by
  pointwise [coef]

/-- The values, the context's before the latents'. -/
theorem column_at (vC : FVec Ideal S8x256x512 .f32) (vL : FVec Ideal S8x4096x512 .f32) (d : Fin 128) :
    concatenate S8x4x4352x128 2 [⟨S8x4x256x128, (transpose S8x4x256x128 [0, 2, 1, 3] (shapeCast S8x256x4x128 vC shapeCasts_S8x256x512_S8x256x4x128) transposes_S8x256x4x128_S8x4x256x128_0_2_1_3)⟩,
      ⟨S8x4x4096x128, (transpose S8x4x4096x128 [0, 2, 1, 3] (shapeCast S8x4096x4x128 vL shapeCasts_S8x4096x512_S8x4096x4x128) transposes_S8x4096x4x128_S8x4x4096x128_0_2_1_3)⟩]
      concatenates_S8x4x256x128_S8x4x4096x128_S8x4x4352x128_d2 (ix4 b h j d) = column vC vL b h d j := by
  pointwise [column]
  rfl
end

variable (V0 : Valuation τ sig (Elt Ideal)) (b : Fin 8) (h : Fin 4) (p : Fin 2) (q : Fin 4096)

/-- The reference's table of cosines. -/
theorem v24_at (x : Fin 32) : (res_main_v24 (F := Ideal) V0 (ix2 q x) : EReal) = ((Real.cos (turn q.val x.val) : ℝ) : EReal) := by
  rw [← cos_angle]
  pointwise [res_main_v24, res_main_v23, res_main_v12]
  rfl

/-- The reference's table of sines. -/
theorem v25_at (x : Fin 32) : (res_main_v25 (F := Ideal) V0 (ix2 q x) : EReal) = ((Real.sin (turn q.val x.val) : ℝ) : EReal) := by
  rw [← sin_angle]
  pointwise [res_main_v25, res_main_v23, res_main_v12]
  rfl

/-- The reference's weight of a key under one map. -/
def weight (j : Fin 4352) : EReal := (res_main_v94 (F := Ideal) V0 (ix5 b h p q j) : EReal)

/-- The reference's attended row at one lane. -/
def attendedRef (d : Fin 128) : EReal := (res_main_v102 (F := Ideal) V0 (ix4 b h q d) : EReal)

/-- The reference's attended rows over its own weights. -/
theorem v102_raw (d : Fin 128) : attendedRef V0 b h q d
    = ∑ j : Fin 4352, (weight V0 b h 0 q j
        - coef (fun x => V0 (Proc.devRef .tc main_arg6) (ix1 x)) (fun x => V0 (Proc.devRef .tc main_arg7) (ix1 x))
            (fun x => V0 (Proc.devRef .tc main_arg8) (ix1 x)) (fun x => V0 (Proc.devRef .tc main_arg9) (ix1 x))
            (V0 (Proc.devRef .tc main_arg10) ix0)
          * weight V0 b h 1 q j)
        * column (V0 (Proc.devRef .tc main_arg5)) (V0 (Proc.devRef .tc main_arg2)) b h d j := by
  unfold attendedRef res_main_v102 weight
  refine (over b h q _ _ d).trans (Finset.sum_congr rfl fun j _ => ?_)
  refine congrArg₂ (fun x y : EReal => x * y) ((mix_at _ _ b h q j).trans ?_) (column_at b h j _ _ d)
  exact congrArg (fun z : EReal => weight V0 b h 0 q j - z * weight V0 b h 1 q j)
    (coef_at _ _ _ _ _)

section
variable (Q K : Fin 8 → Fin 4096 → Fin 512 → ℝ) (C : Fin 8 → Fin 256 → Fin 512 → ℝ)
  (hQ : ∀ b q l, (V0 (Proc.devRef .tc main_arg0) (ix3 b q l) : EReal) = (Q b q l : EReal))
  (hK : ∀ b q l, (V0 (Proc.devRef .tc main_arg1) (ix3 b q l) : EReal) = (K b q l : EReal))
  (hC : ∀ b q l, (V0 (Proc.devRef .tc main_arg4) (ix3 b q l) : EReal) = (C b q l : EReal))

include hQ in
theorem v35_at (x : Fin 64) : (res_main_v35 (F := Ideal) V0 (ix5 b h p q x) : EReal) = (Q b q (part h p x) : EReal) := by
  rw [← hQ]
  pointwise [res_main_v35]
  rfl

include hQ in
theorem v36_at (x : Fin 32) : (res_main_v36 (F := Ideal) V0 (ix5 b h p q x) : EReal) = (Q b q (partL h p x) : EReal) := by
  rw [← hQ]
  pointwise [res_main_v36, res_main_v35]
  rfl

include hQ in
theorem v37_at (x : Fin 32) : (res_main_v37 (F := Ideal) V0 (ix5 b h p q x) : EReal) = (Q b q (partH h p x) : EReal) := by
  rw [← hQ]
  pointwise [res_main_v37, res_main_v35]
  rfl

include hK in
theorem v55_at (x : Fin 32) : (res_main_v55 (F := Ideal) V0 (ix5 b h p q x) : EReal) = (K b q (partL h p x) : EReal) := by
  rw [← hK]
  pointwise [res_main_v55, res_main_v54]
  rfl

include hK in
theorem v56_at (x : Fin 32) : (res_main_v56 (F := Ideal) V0 (ix5 b h p q x) : EReal) = (K b q (partH h p x) : EReal) := by
  rw [← hK]
  pointwise [res_main_v56, res_main_v54]
  rfl

/-- The pattern of one eighth. -/
theorem ofBits_eighth : Ideal.ofBits FTy.f32 1040187392#32 = ((0.125 : ℝ) : EReal) := by
  simp [Ideal.ofBits, Ideal.ieee]; norm_num [← EReal.coe_mul]

include hQ hK hC in
/-- The reference's scaled scores. -/
theorem v83_at (j : Fin 4352) : (res_main_v83 (F := Ideal) V0 (ix5 b h p q j) : EReal) = (logit Q K C b h p q j : EReal) := by
  pointwise [res_main_v83]
  rw [ofBits_eighth, logit]
  split
  · rw [score, EReal.coe_mul, ← sum_coe]
    congr 1
    refine Finset.sum_congr rfl fun x _ => ?_
    rw [v35_at V0 b h p q Q hQ, EReal.coe_mul, ← hC]
    rfl
  · rw [score_rot, EReal.coe_mul, EReal.coe_add, ← sum_coe, ← sum_coe]
    simp only [v36_at V0 b h p _ Q hQ, v37_at V0 b h p _ Q hQ, v55_at V0 b h p _ K hK, v56_at V0 b h p _ K hK, v24_at, v25_at,
      EReal.coe_mul, EReal.coe_add, EReal.coe_sub]

include hQ hK hC in
/-- The reference's softmax weights. -/
theorem v94_at (j : Fin 4352) : weight V0 b h p q j
    = Ideal.div (Ideal.exp ((logit Q K C b h p q j : EReal) - Finset.univ.sup fun j => (logit Q K C b h p q j : EReal)))
        (∑ j, Ideal.exp ((logit Q K C b h p q j : EReal) - Finset.univ.sup fun j => (logit Q K C b h p q j : EReal))) := by
  have e : ∀ j : Fin 4352, powers (res_main_v83 (F := Ideal) V0) (constant S_ .f32 0xFF800000#32) (ix5 b h p q j)
      = Ideal.exp ((logit Q K C b h p q j : EReal) - Finset.univ.sup fun j => (logit Q K C b h p q j : EReal)) := by
    intro j
    refine (powers_at _ _ b h p q j).trans ?_
    have hz : (constant S_ .f32 0xFF800000#32 : FVec Ideal S_ .f32) ix0 = (⊥ : EReal) := ofBits_negInf
    rw [hz]
    have hs : (fun j : Fin 4352 => (res_main_v83 (F := Ideal) V0 (ix5 b h p q j) : EReal)) = fun j => (logit Q K C b h p q j : EReal) :=
      funext fun j => v83_at V0 b h p q Q K C hQ hK hC j
    have h0 := congrFun hs j
    refine congrArg Ideal.exp ?_
    refine congrArg₂ (fun (x y : EReal) => x - y) h0 ?_
    refine (max_eq_right bot_le).trans ?_
    exact congrArg (fun f : Fin 4352 → EReal => Finset.univ.fold max ⊥ f) hs
  refine (shares_at (powers (res_main_v83 (F := Ideal) V0) (constant S_ .f32 0xFF800000#32)) b h p q j).trans ?_
  exact congrArg₂ Ideal.div (e j) (Finset.sum_congr rfl fun j _ => e j)

include hQ hK hC in
/-- The reference's attended rows. -/
theorem v102_at (d : Fin 128) : attendedRef V0 b h q d
    = ∑ j, (Ideal.div (Ideal.exp ((logit Q K C b h 0 q j : EReal) - Finset.univ.sup fun j => (logit Q K C b h 0 q j : EReal)))
          (∑ j, Ideal.exp ((logit Q K C b h 0 q j : EReal) - Finset.univ.sup fun j => (logit Q K C b h 0 q j : EReal)))
        - coef (fun x => V0 (Proc.devRef .tc main_arg6) (ix1 x)) (fun x => V0 (Proc.devRef .tc main_arg7) (ix1 x))
            (fun x => V0 (Proc.devRef .tc main_arg8) (ix1 x)) (fun x => V0 (Proc.devRef .tc main_arg9) (ix1 x))
            (V0 (Proc.devRef .tc main_arg10) ix0)
          * Ideal.div (Ideal.exp ((logit Q K C b h 1 q j : EReal) - Finset.univ.sup fun j => (logit Q K C b h 1 q j : EReal)))
          (∑ j, Ideal.exp ((logit Q K C b h 1 q j : EReal) - Finset.univ.sup fun j => (logit Q K C b h 1 q j : EReal))))
        * column (V0 (Proc.devRef .tc main_arg5)) (V0 (Proc.devRef .tc main_arg2)) b h d j := by
  refine (v102_raw V0 b h q d).trans (Finset.sum_congr rfl fun j _ => ?_)
  refine congrArg (fun x : EReal => x * column (V0 (Proc.devRef .tc main_arg5)) (V0 (Proc.devRef .tc main_arg2)) b h d j) ?_
  exact congrArg₂ (fun x y : EReal => x - coef (fun x => V0 (Proc.devRef .tc main_arg6) (ix1 x)) (fun x => V0 (Proc.devRef .tc main_arg7) (ix1 x))
            (fun x => V0 (Proc.devRef .tc main_arg8) (ix1 x)) (fun x => V0 (Proc.devRef .tc main_arg9) (ix1 x))
            (V0 (Proc.devRef .tc main_arg10) ix0) * y)
    (v94_at V0 b h 0 q Q K C hQ hK hC j) (v94_at V0 b h 1 q Q K C hQ hK hC j)
end

end Cert.Attn

end
-- ==== Proof.Equal.lean ====
/- The kernel's result and the reference's are one array. -/
module

public import proofs.«01_k».proof.Proof.Host
public import proofs.«01_k».proof.Proof.RefValue

@[expose] public section

set_option maxRecDepth 16384

noncomputable section

namespace Cert.Attn

open Idealize.ShloMosaic Idealize.ShloMosaic.TcCoe Idealize.SL.Sem

/-- `attend` over a row whose length is given as a number of its own. -/
theorem attend_join {n k N : ℕ} (hN : n + k = N) (hn : 0 < n) (x₀ x₁ : Fin N → ℝ) (s₀ s₁ : Fin n → EReal) (t₀ t₁ : Fin k → EReal)
    (hs₀ : ∀ j, s₀ j = ((x₀ (Fin.cast hN (Fin.castAdd k j)) * log2e : ℝ) : EReal))
    (ht₀ : ∀ j, t₀ j = ((x₀ (Fin.cast hN (Fin.natAdd n j)) * log2e : ℝ) : EReal))
    (hs₁ : ∀ j, s₁ j = ((x₁ (Fin.cast hN (Fin.castAdd k j)) * log2e : ℝ) : EReal))
    (ht₁ : ∀ j, t₁ j = ((x₁ (Fin.cast hN (Fin.natAdd n j)) * log2e : ℝ) : EReal))
    (lam : EReal) (v : Fin N → EReal) (vC : Fin n → EReal) (vL : Fin k → EReal)
    (hC : ∀ j, vC j = v (Fin.cast hN (Fin.castAdd k j))) (hL : ∀ j, vL j = v (Fin.cast hN (Fin.natAdd n j))) :
    attended s₀ s₁ t₀ t₁ lam vC vL
      = ∑ j, (Ideal.div (Ideal.exp ((x₀ j : EReal) - Finset.univ.sup (fun j => (x₀ j : EReal))))
            (∑ j, Ideal.exp ((x₀ j : EReal) - Finset.univ.sup (fun j => (x₀ j : EReal))))
          - lam * Ideal.div (Ideal.exp ((x₁ j : EReal) - Finset.univ.sup (fun j => (x₁ j : EReal))))
            (∑ j, Ideal.exp ((x₁ j : EReal) - Finset.univ.sup (fun j => (x₁ j : EReal))))) * v j := by
  subst hN
  obtain rfl : vC = _ := funext hC
  obtain rfl : vL = _ := funext hL
  exact attend hn x₀ x₁ s₀ s₁ t₀ t₁ hs₀ ht₀ hs₁ ht₁ lam v

section
variable (Q K : Fin 8 → Fin 4096 → Fin 512 → ℝ) (C : Fin 8 → Fin 256 → Fin 512 → ℝ)
  (b : Fin 8) (h : Fin 4) (p : Fin 2) (q : Fin 4096)

/-- A score against the context. -/
theorem logit_ctx (j : Fin 256) : logit Q K C b h p q (Fin.cast (by decide : 256 + 4096 = 4352) (Fin.castAdd 4096 j)) = score h p (Q b q) (C b j) := by
  unfold logit
  exact dif_pos j.isLt

/-- A score against the latents. -/
theorem logit_lat (j : Fin 4096) : logit Q K C b h p q (Fin.cast (by decide : 256 + 4096 = 4352) (Fin.natAdd 256 j))
    = score h p (rot (Q b q) q.val) (rot (K b j) j.val) := by
  unfold logit
  refine (dif_neg (by simp)).trans ?_
  have e : (Fin.cast (by decide : 256 + 4096 = 4352) (Fin.natAdd 256 j)).val - 256 = j.val := by simp
  have e' : (⟨(Fin.cast (by decide : 256 + 4096 = 4352) (Fin.natAdd 256 j)).val - 256, by omega⟩ : Fin 4096) = j := Fin.ext e
  rw [e', e]
end

variable (m : (ℓ : Loc Cert.KernelIdeal.nD Cert.KernelIdeal.τ Cert.KernelIdeal.sig) → Buf (Elt Ideal) ℓ) (c : Dev Cert.KernelIdeal.nD)
  (V0 : Valuation Cert.ReferenceIdeal.τ Cert.ReferenceIdeal.sig (Elt Ideal))

section
open Cert.KernelIdeal Cert.KernelIdeal.Gen

variable (Q K : Fin 8 → Fin 4096 → Fin 512 → ℝ) (C : Fin 8 → Fin 256 → Fin 512 → ℝ)
  (hQ : ∀ b q l, (m (c, Proc.tc.devRef main_arg0) (ix3 b q l) : EReal) = (Q b q l : EReal))
  (hK : ∀ b q l, (m (c, Proc.tc.devRef main_arg1) (ix3 b q l) : EReal) = (K b q l : EReal))
  (hC : ∀ b q l, (m (c, Proc.tc.devRef main_arg4) (ix3 b q l) : EReal) = (C b q l : EReal))
  (b : Fin 8) (h : Fin 4) (q : Fin 4096)

include hQ hC in
theorem lowC (j : Fin 256) : low (fun x => V m c main_v45 (ix3 b (latRow q) (lane h x))) (fun x => V m c main_v68 (ix3 b (ctxRow j) (lane h x)))
    = ((logit Q K C b h 0 q (Fin.cast (by decide : 256 + 4096 = 4352) (Fin.castAdd 4096 j)) * log2e : ℝ) : EReal) := by
  rw [logit_ctx, ← low_real]
  exact congrArg₂ low (funext fun x => q_plain m c b Q hQ q _) (funext fun x => k_ctx m c b C hC j _)

include hQ hC in
theorem highC (j : Fin 256) : high (fun x => V m c main_v45 (ix3 b (latRow q) (lane h x))) (fun x => V m c main_v68 (ix3 b (ctxRow j) (lane h x)))
    = ((logit Q K C b h 1 q (Fin.cast (by decide : 256 + 4096 = 4352) (Fin.castAdd 4096 j)) * log2e : ℝ) : EReal) := by
  rw [logit_ctx, ← high_real]
  exact congrArg₂ high (funext fun x => q_plain m c b Q hQ q _) (funext fun x => k_ctx m c b C hC j _)

include hQ hK in
theorem lowL (j : Fin 4096) : low (fun x => V m c main_v56 (ix3 b (latRow q) (lane h x))) (fun x => V m c main_v68 (ix3 b (latRow j) (lane h x)))
    = ((logit Q K C b h 0 q (Fin.cast (by decide : 256 + 4096 = 4352) (Fin.natAdd 256 j)) * log2e : ℝ) : EReal) := by
  rw [logit_lat, ← low_real]
  exact congrArg₂ low (funext fun x => q_rot m c b Q hQ q _) (funext fun x => k_lat m c b K hK j _)

include hQ hK in
theorem highL (j : Fin 4096) : high (fun x => V m c main_v56 (ix3 b (latRow q) (lane h x))) (fun x => V m c main_v68 (ix3 b (latRow j) (lane h x)))
    = ((logit Q K C b h 1 q (Fin.cast (by decide : 256 + 4096 = 4352) (Fin.natAdd 256 j)) * log2e : ℝ) : EReal) := by
  rw [logit_lat, ← high_real]
  exact congrArg₂ high (funext fun x => q_rot m c b Q hQ q _) (funext fun x => k_lat m c b K hK j _)

/-- The context's values in the kernel's array. -/
theorem valC (d : Fin 128) (j : Fin 256) : (V m c main_v70 (ix3 b (ctxRow j) (lane h d)) : EReal)
    = column (m (c, Proc.tc.devRef main_arg5)) (m (c, Proc.tc.devRef main_arg2)) b h d (Fin.cast (by decide : 256 + 4096 = 4352) (Fin.castAdd 4096 j)) := by
  rw [v_at, dif_neg (show ¬ (ctxRow j).val < 4096 by simp [ctxRow])]
  unfold column
  refine Eq.trans ?_ (dif_pos j.isLt).symm
  have e : (⟨(ctxRow j).val - 4096, by simp only [ctxRow]; omega⟩ : Fin 256) = j := Fin.ext (Nat.add_sub_cancel_left _ _)
  exact congrArg (fun j : Fin 256 => (m (c, Proc.tc.devRef main_arg5) (ix3 b j (lane h d)) : EReal)) e

/-- The latents' values in the kernel's array. -/
theorem valL (d : Fin 128) (j : Fin 4096) : (V m c main_v70 (ix3 b (latRow j) (lane h d)) : EReal)
    = column (m (c, Proc.tc.devRef main_arg5)) (m (c, Proc.tc.devRef main_arg2)) b h d (Fin.cast (by decide : 256 + 4096 = 4352) (Fin.natAdd 256 j)) := by
  rw [v_at, dif_pos (show (latRow j).val < 4096 from j.isLt)]
  unfold column
  refine Eq.trans ?_ (dif_neg (by simp)).symm
  have e : (⟨(Fin.cast (by decide : 256 + 4096 = 4352) (Fin.natAdd 256 j)).val - 256, by simp⟩ : Fin 4096) = j := Fin.ext (by simp)
  exact (congrArg (fun j : Fin 4096 => (m (c, Proc.tc.devRef main_arg2) (ix3 b j (lane h d)) : EReal)) e).symm
end

section
variable (e0 : V0 (Proc.devRef .tc Cert.ReferenceIdeal.main_arg0) = m (c, Proc.devRef .tc Cert.KernelIdeal.main_arg0))
  (e1 : V0 (Proc.devRef .tc Cert.ReferenceIdeal.main_arg1) = m (c, Proc.devRef .tc Cert.KernelIdeal.main_arg1))
  (e2 : V0 (Proc.devRef .tc Cert.ReferenceIdeal.main_arg2) = m (c, Proc.devRef .tc Cert.KernelIdeal.main_arg2))
  (e4 : V0 (Proc.devRef .tc Cert.ReferenceIdeal.main_arg4) = m (c, Proc.devRef .tc Cert.KernelIdeal.main_arg4))
  (e5 : V0 (Proc.devRef .tc Cert.ReferenceIdeal.main_arg5) = m (c, Proc.devRef .tc Cert.KernelIdeal.main_arg5))
  (e6 : V0 (Proc.devRef .tc Cert.ReferenceIdeal.main_arg6) = m (c, Proc.devRef .tc Cert.KernelIdeal.main_arg6))
  (e7 : V0 (Proc.devRef .tc Cert.ReferenceIdeal.main_arg7) = m (c, Proc.devRef .tc Cert.KernelIdeal.main_arg7))
  (e8 : V0 (Proc.devRef .tc Cert.ReferenceIdeal.main_arg8) = m (c, Proc.devRef .tc Cert.KernelIdeal.main_arg8))
  (e9 : V0 (Proc.devRef .tc Cert.ReferenceIdeal.main_arg9) = m (c, Proc.devRef .tc Cert.KernelIdeal.main_arg9))
  (e10 : V0 (Proc.devRef .tc Cert.ReferenceIdeal.main_arg10) = m (c, Proc.devRef .tc Cert.KernelIdeal.main_arg10))
  (e11 : V0 (Proc.devRef .tc Cert.ReferenceIdeal.main_arg11) = m (c, Proc.devRef .tc Cert.KernelIdeal.main_arg11))
  (Q K : Fin 8 → Fin 4096 → Fin 512 → ℝ) (C : Fin 8 → Fin 256 → Fin 512 → ℝ)
  (hQ : ∀ b q l, (m (c, Proc.tc.devRef Cert.KernelIdeal.main_arg0) (ix3 b q l) : EReal) = (Q b q l : EReal))
  (hK : ∀ b q l, (m (c, Proc.tc.devRef Cert.KernelIdeal.main_arg1) (ix3 b q l) : EReal) = (K b q l : EReal))
  (hC : ∀ b q l, (m (c, Proc.tc.devRef Cert.KernelIdeal.main_arg4) (ix3 b q l) : EReal) = (C b q l : EReal))
  (b : Fin 8) (h : Fin 4) (q : Fin 4096)

open Cert.KernelIdeal Cert.KernelIdeal.Gen in
include e0 e1 e2 e4 e5 e6 e7 e8 e9 e10 hQ hK hC in
/-- The kernel's attended row is the reference's. -/
theorem attended_eq (d : Fin 128) :
    attended
      (fun j => low (fun x => V m c main_v45 (ix3 b (latRow q) (lane h x))) fun x => V m c main_v68 (ix3 b (ctxRow j) (lane h x)))
      (fun j => high (fun x => V m c main_v45 (ix3 b (latRow q) (lane h x))) fun x => V m c main_v68 (ix3 b (ctxRow j) (lane h x)))
      (fun j => low (fun x => V m c main_v56 (ix3 b (latRow q) (lane h x))) fun x => V m c main_v68 (ix3 b (latRow j) (lane h x)))
      (fun j => high (fun x => V m c main_v56 (ix3 b (latRow q) (lane h x))) fun x => V m c main_v68 (ix3 b (latRow j) (lane h x)))
      (V m c main_v83 (ix2 0 0)) (fun j => V m c main_v70 (ix3 b (ctxRow j) (lane h d))) (fun j => V m c main_v70 (ix3 b (latRow j) (lane h d)))
    = attendedRef V0 b h q d := by
  refine (attend_join (by decide : 256 + 4096 = 4352) (by decide) (logit Q K C b h 0 q) (logit Q K C b h 1 q) _ _ _ _
    (lowC m c Q K C hQ hC b h q) (lowL m c Q K C hQ hK b h q) (highC m c Q K C hQ hC b h q) (highL m c Q K C hQ hK b h q)
    _ _ _ _ (valC m c b h d) (valL m c b h d)).trans ?_
  rw [v102_at V0 b h q Q K C (fun b q l => (congrFun e0 _).trans (hQ b q l)) (fun b q l => (congrFun e1 _).trans (hK b q l))
    (fun b q l => (congrFun e4 _).trans (hC b q l)) d, e2, e5, e6, e7, e8, e9, e10, coef_host]

open Cert.KernelIdeal Cert.KernelIdeal.Gen in
include e0 e1 e2 e4 e5 e6 e7 e8 e9 e10 e11 hQ hK hC in
/-- The reference's array is the kernel's. -/
theorem out_eq : out (Cert.ReferenceIdeal.Value.res_main_v102 (F := Ideal) V0) (V0 (Proc.devRef .tc Cert.ReferenceIdeal.main_arg11))
    (V0 (Proc.devRef .tc Cert.ReferenceIdeal.main_arg10)) = result m c := by
  funext y
  have hy : y = ix3 (y 0) (y 1) (y 2) := by
    funext i
    fin_cases i <;> rfl
  rw [hy]
  refine (out_at (y 0) (y 1) _ _ _ (y 2)).trans ?_
  have ht := fun d => (attended_eq m c V0 e0 e1 e2 e4 e5 e6 e7 e8 e9 e10 Q K C hQ hK hC (y 0) ⟨(y 2).val / 128, Nat.div_lt_of_lt_mul (y 2).isLt⟩ (y 1) d).symm
  refine congrArg₂ (fun x z : EReal => x * z) (congrArg (fun f : Fin 128 → EReal => normed f ⟨(y 2).val % 128, Nat.mod_lt _ (by decide)⟩) (funext ht)) ?_
  rw [gain_at, e10, e11]
  rfl
end

end Cert.Attn

end
-- ==== Proof.Finite.lean ====
/- What the precondition says: the queries and the keys are real numbers. -/
module

public import proofs.«01_k».proof.Proof.Gen.Pre_finite
public import Idealize.ShloMosaic.Lib.Pointwise
public import Idealize.ShloMosaic.Lib.ReduceAll

@[expose] public section

noncomputable section

namespace Cert.Attn

open Cert.Pre_finite Idealize.ShloMosaic

/-- An extended real whose magnitude is below the greatest is a real number. -/
theorem real_of_abs (x : Ideal .f32)
    (h : FloatOps.cmpf (F := Ideal) (φ := .f32) .olt (FloatOps.hostAbsf x) (Ideal.ofBits .f32 0x7F800000#32) = 1#1) : ∃ r : ℝ, x = (r : EReal) := by
  have e : Ideal.ofBits .f32 0x7F800000#32 = ⊤ := by simp [Ideal.ofBits, Ideal.ieee]
  rw [e] at h
  induction x using EReal.rec with
  | bot => exact absurd h (by simp [FloatOps.cmpf, FloatOps.hostAbsf, FloatOps.absf, Ideal.cmp])
  | coe r => exact ⟨r, rfl⟩
  | top => exact absurd h (by simp [FloatOps.cmpf, FloatOps.hostAbsf, FloatOps.absf, Ideal.cmp])

/-- The conjunction of a bit is one only where both are. -/
theorem and_one (a b : BitVec 1) (h : IntOp.andi a b = 1#1) : a = 1#1 ∧ b = 1#1 := by
  revert a b; decide

variable [Cert.Pre_finite.Facts]

/-- Where every magnitude of an array of the latents' shape is below the greatest, every element is real. -/
theorem whole_lat (a : FVec Ideal S8x4096x512 .f32)
    (h : Host.reduce IntOp.andi (cmpf .olt (Host.absf a) (broadcastInDim S8x4096x512 ![] Facts.bcast_S_S8x4096x512 (constant S_ .f32 0x7F800000#32)))
      (constantI S_ 1 1#1) Facts.reducesTo_S8x4096x512_S_d0_1_2 Facts.h_S_ ix0 = 1#1) (b : Fin 8) (q : Fin 4096) (l : Fin 512) :
    ∃ r : ℝ, (a (ix3 b q l) : EReal) = (r : EReal) := by
  haveI : Subsingleton S_.Idx := ⟨fun a b => funext fun i => i.elim0⟩
  have k := Host.reduce_andi_all _ _ _ _ _ h (ix3 b q l)
  exact real_of_abs _ k

/-- The same of the context's shape. -/
theorem whole_ctx (a : FVec Ideal S8x256x512 .f32)
    (h : Host.reduce IntOp.andi (cmpf .olt (Host.absf a) (broadcastInDim S8x256x512 ![] Facts.bcast_S_S8x256x512 (constant S_ .f32 0x7F800000#32)))
      (constantI S_ 1 1#1) Facts.reducesTo_S8x256x512_S_d0_1_2 Facts.h_S_ ix0 = 1#1) (b : Fin 8) (q : Fin 256) (l : Fin 512) :
    ∃ r : ℝ, (a (ix3 b q l) : EReal) = (r : EReal) := by
  haveI : Subsingleton S_.Idx := ⟨fun a b => funext fun i => i.elim0⟩
  have k := Host.reduce_andi_all _ _ _ _ _ h (ix3 b q l)
  exact real_of_abs _ k

/-- The precondition: the latents' queries and keys and the context's keys are real. -/
theorem finite_real (a0 a1 a2 : FVec Ideal S8x4096x512 .f32) (a3 a4 a5 : FVec Ideal S8x256x512 .f32) (a6 a7 a8 a9 : FVec Ideal S64 .f32)
    (a10 : FVec Ideal S_ .f32) (a11 : FVec Ideal S128 .f32) (h : fn (F := Ideal) a0 a1 a2 a3 a4 a5 a6 a7 a8 a9 a10 a11 = fun _ => 1#1) :
    (∀ b q l, ∃ r : ℝ, (a0 (ix3 b q l) : EReal) = (r : EReal)) ∧ (∀ b q l, ∃ r : ℝ, (a1 (ix3 b q l) : EReal) = (r : EReal))
      ∧ ∀ b q l, ∃ r : ℝ, (a4 (ix3 b q l) : EReal) = (r : EReal) := by
  have h0 := congrFun h ix0
  unfold fn at h0
  obtain ⟨h1, k4⟩ := and_one _ _ h0
  obtain ⟨k0, k1⟩ := and_one _ _ h1
  exact ⟨whole_lat a0 k0, whole_lat a1 k1, whole_ctx a4 k4⟩

end Cert.Attn

end
-- ==== Proof.Proj.lean ====
/- The input projection as a function of the index: a token normalised and modulated, its product with the weights, and the
   rotation of the queries and keys by position. -/
module

public import proofs.«01_k».proof.Proof.Rope

@[expose] public section

noncomputable section

namespace Cert.Proj

open Idealize.ShloMosaic

/-- A token divided by its root mean square, times the gain, scaled and shifted. -/
def modulated (x g s t : Fin 1024 → EReal) (d : Fin 1024) : EReal :=
  x d * Ideal.rsqrt (Ideal.div (∑ e, x e * x e) (Ideal.ofBits .f32 0x44800000#32) + Ideal.ofBits .f32 0x358637BD#32) * g d
    * (Ideal.ofBits .f32 0x3F800000#32 + s d) + t d

/-- A column of the projection of one token. -/
def column (x g s t w : Fin 1024 → EReal) : EReal := ∑ d, modulated x g s t d * w d

/-- The first 1024 of the modulation's numbers: the shift. -/
def shiftAt (d : Fin 1024) : Fin 6144 := ⟨d.val, by omega⟩

/-- The next 1024: the scale. -/
def scaleAt (d : Fin 1024) : Fin 6144 := ⟨1024 + d.val, by omega⟩

section
variable (X : Fin 8 → Fin 4096 → Fin 1024 → EReal) (C : Fin 8 → Fin 256 → Fin 1024 → EReal) (M : Fin 8 → Fin 6144 → EReal)
  (N : Fin 6144 → EReal) (G : Fin 1024 → EReal) (W : Fin 1024 → Fin 2560 → EReal)

/-- Column `n` of the projection of token `q` of batch `b`, the latents' tokens first and then the context's. -/
def projected (b : Fin 8) (q : Fin 4352) (n : Fin 2560) : EReal :=
  if h : q.val < 4096 then column (X b ⟨q.val, h⟩) G (fun d => M b (scaleAt d)) (fun d => M b (shiftAt d)) fun d => W d n
  else column (C b ⟨q.val - 4096, by omega⟩) G (fun d => N (scaleAt d)) (fun d => N (shiftAt d)) fun d => W d n

/-- A latent's column, from functions that agree with the arguments. -/
theorem projected_lat (b : Fin 8) (q : Fin 4352) (n : Fin 2560) (hq : q.val < 4096) (x g s t w : Fin 1024 → EReal)
    (hx : ∀ d, x d = X b ⟨q.val, hq⟩ d) (hg : ∀ d, g d = G d) (hs : ∀ d, s d = M b (scaleAt d)) (ht : ∀ d, t d = M b (shiftAt d))
    (hw : ∀ d, w d = W d n) : column x g s t w = projected X C M N G W b q n := by
  obtain rfl : x = X b ⟨q.val, hq⟩ := funext hx
  obtain rfl : g = G := funext hg
  obtain rfl : s = fun d => M b (scaleAt d) := funext hs
  obtain rfl : t = fun d => M b (shiftAt d) := funext ht
  obtain rfl : w = fun d => W d n := funext hw
  rw [projected, dif_pos hq]

/-- A context's column, from functions that agree with the arguments. -/
theorem projected_ctx (b : Fin 8) (q : Fin 4352) (n : Fin 2560) (hq : ¬ q.val < 4096) (x g s t w : Fin 1024 → EReal)
    (hx : ∀ d, x d = C b ⟨q.val - 4096, by omega⟩ d) (hg : ∀ d, g d = G d) (hs : ∀ d, s d = N (scaleAt d))
    (ht : ∀ d, t d = N (shiftAt d)) (hw : ∀ d, w d = W d n) : column x g s t w = projected X C M N G W b q n := by
  obtain rfl : x = C b ⟨q.val - 4096, by omega⟩ := funext hx
  obtain rfl : g = G := funext hg
  obtain rfl : s = fun d => N (scaleAt d) := funext hs
  obtain rfl : t = fun d => N (shiftAt d) := funext ht
  obtain rfl : w = fun d => W d n := funext hw
  rw [projected, dif_neg hq]
end

/-- A latent's row of 512 lanes, every 64 of them rotated by position `q`: lane `x` of the 64 is paired with lane `x + 32`. -/
def rotated (A : Fin 512 → EReal) (q : ℕ) (l : Fin 512) : EReal :=
  if h : l.val % 64 < 32 then
    A l * Ideal.cos (Attn.angle q (l.val % 64)) - A ⟨l.val + 32, by omega⟩ * Ideal.sin (Attn.angle q (l.val % 64))
  else A l * Ideal.cos (Attn.angle q (l.val % 64 - 32)) + A ⟨l.val - 32, by omega⟩ * Ideal.sin (Attn.angle q (l.val % 64 - 32))

/-- The rotation with the two lanes of a pair counted by head, map and half. -/
theorem rotated_spelt (A : Fin 512 → EReal) (q : ℕ) (l : Fin 512) :
    (if h : l.val % 64 < 32 then
        A l * Ideal.cos (Attn.angle q (l.val % 64))
          - A ⟨l.val / 128 * 128 + l.val / 64 % 2 * 64 + (32 + l.val % 64), by omega⟩ * Ideal.sin (Attn.angle q (l.val % 64))
      else A ⟨l.val / 128 * 128 + l.val / 64 % 2 * 64 + (l.val % 64 - 32), by omega⟩ * Ideal.sin (Attn.angle q (l.val % 64 - 32))
          + A ⟨l.val / 128 * 128 + l.val / 64 % 2 * 64 + (32 + (l.val % 64 - 32)), by omega⟩
            * Ideal.cos (Attn.angle q (l.val % 64 - 32))) = rotated A q l := by
  unfold rotated
  by_cases h : l.val % 64 < 32
  · have e : (⟨l.val / 128 * 128 + l.val / 64 % 2 * 64 + (32 + l.val % 64), by omega⟩ : Fin 512) = ⟨l.val + 32, by omega⟩ :=
      Fin.ext (show l.val / 128 * 128 + l.val / 64 % 2 * 64 + (32 + l.val % 64) = l.val + 32 by omega)
    rw [dif_pos h, dif_pos h, e]
  · have e : (⟨l.val / 128 * 128 + l.val / 64 % 2 * 64 + (l.val % 64 - 32), by omega⟩ : Fin 512) = ⟨l.val - 32, by omega⟩ :=
      Fin.ext (show l.val / 128 * 128 + l.val / 64 % 2 * 64 + (l.val % 64 - 32) = l.val - 32 by omega)
    have e' : (⟨l.val / 128 * 128 + l.val / 64 % 2 * 64 + (32 + (l.val % 64 - 32)), by omega⟩ : Fin 512) = l :=
      Fin.ext (show l.val / 128 * 128 + l.val / 64 % 2 * 64 + (32 + (l.val % 64 - 32)) = l.val by omega)
    rw [dif_neg h, dif_neg h, e, e', add_comm]

/-- A row rotated where it is a latent's. -/
def rotatedRow (A : Fin 512 → EReal) (q : Fin 4352) (l : Fin 512) : EReal := if q.val < 4096 then rotated A q.val l else A l

/-- A latent's row is rotated. -/
theorem rotatedRow_lat (A B : Fin 512 → EReal) (q : Fin 4352) (l : Fin 512) (hq : q.val < 4096) (h : ∀ l, A l = B l) :
    rotatedRow A q l = rotated B q.val l := by
  obtain rfl : A = B := funext h
  exact if_pos hq

/-- A context's row is left as it is. -/
theorem rotatedRow_ctx (A : Fin 512 → EReal) (a : EReal) (q : Fin 4352) (l : Fin 512) (hq : ¬ q.val < 4096) (h : A l = a) :
    rotatedRow A q l = a := (if_neg hq).trans h

/-- A row of lanes rotated by tables: each lane times the cosine's, plus its partner times the sine's. -/
def turned (A cos sin : Fin 512 → EReal) (l : Fin 512) : EReal :=
  A l * cos l
    + (if l.val % 64 < 32 then A ⟨(l.val + 512 - 480) % 512, Nat.mod_lt _ (by decide)⟩
        else A ⟨(l.val + 512 - 32) % 512, Nat.mod_lt _ (by decide)⟩) * sin l

/-- With the tables of a position that is the rotation on a latent's row, and nothing on a context's row. -/
theorem turned_eq (A cos sin : Fin 512 → EReal) (q : Fin 4352) (l : Fin 512)
    (hc : cos l = if q.val < 4096 then Ideal.cos (Attn.angle q.val (if l.val % 64 < 32 then l.val % 64 else l.val % 64 - 32)) else 1)
    (hs : sin l = if q.val < 4096 then (if l.val % 64 < 32 then -Ideal.sin (Attn.angle q.val (l.val % 64))
        else Ideal.sin (Attn.angle q.val (l.val % 64 - 32))) else 0) : turned A cos sin l = rotatedRow A q l := by
  unfold turned rotatedRow rotated
  rw [hc, hs]
  by_cases hq : q.val < 4096
  · rw [if_pos hq, if_pos hq, if_pos hq]
    by_cases h : l.val % 64 < 32
    · have e : (⟨(l.val + 512 - 480) % 512, Nat.mod_lt _ (by decide)⟩ : Fin 512) = ⟨l.val + 32, by omega⟩ :=
        Fin.ext (show (l.val + 512 - 480) % 512 = l.val + 32 by omega)
      rw [if_pos h, if_pos h, if_pos h, dif_pos h, mul_neg, ← sub_eq_add_neg, e]
    · have e : (⟨(l.val + 512 - 32) % 512, Nat.mod_lt _ (by decide)⟩ : Fin 512) = ⟨l.val - 32, by omega⟩ :=
        Fin.ext (show (l.val + 512 - 32) % 512 = l.val - 32 by omega)
      rw [if_neg h, if_neg h, if_neg h, dif_neg h, e]
  · rw [if_neg hq, if_neg hq, if_neg hq, mul_one, mul_zero, add_zero]

/-- The convolution of three rows at a lane. -/
def conv (u v w a b c d : EReal) : EReal := u * a + v * b + w * c + d

/-- A column convolved along the tokens, the latents and the context apart, zero before the first and after the last of either. -/
def convolved (P : Fin 4352 → EReal) (q : Fin 4352) (a b c d : EReal) : EReal :=
  conv (if q.val = 0 ∨ q.val = 4096 then 0 else P ⟨q.val - 1, by omega⟩) (P q)
    (if h : q.val = 4095 ∨ q.val = 4351 then 0 else P ⟨q.val + 1, by omega⟩) a b c d

end Cert.Proj

end
-- ==== Proof.ProjRef.lean ====
/- What the reference's input projection computes at an index. -/
module

public import proofs.«01_k».proof.Proof.Proj
public import proofs.«01_k».proof.Proof.Gen.Reference2Ideal.Run
public import Idealize.ShloMosaic.Lib.Pointwise

@[expose] public section

set_option maxRecDepth 16384

noncomputable section

namespace Cert.Proj.Ref

open Cert.Reference2Ideal Cert.Reference2Ideal.Gen Cert.Reference2Ideal.Value Idealize.ShloMosaic Idealize.ShloMosaic.TcCoe Idealize.SL.Sem Idealize.ShloMosaic.StableHlo

/-- The latents' projection, as the reference spells it. -/
def latProj (x : FVec Ideal S8x4096x1024 .f32) (m : FVec Ideal S8x6144 .f32) (g : FVec Ideal S1024 .f32)
    (w : FVec Ideal S1024x2560 .f32) : FVec Ideal S8x4096x2560 .f32 :=
  Host.dotGeneral dot_S8x4096x1024_S1024x2560_S8x4096x2560_2_0_01_1_n_n none (addf (mulf (mulf (mulf x (broadcastInDim S8x4096x1024 ![0,
    1, 2] bcast_S8x4096x1_S8x4096x1024_0_1_2 (Host.rsqrt (addf (Host.divf (broadcastInDim S8x4096x1 ![0, 1] bcast_S8x4096_S8x4096x1_0_1
    (Host.reduceAdd (mulf x x) (constant S_ .f32 0x00000000#32) reducesTo_S8x4096x1024_S8x4096_d2 h_S_)) (broadcastInDim S8x4096x1 ![]
    bcast_S_S8x4096x1 (constant S_ .f32 0x44800000#32))) (broadcastInDim S8x4096x1 ![] bcast_S_S8x4096x1 (constant S_ .f32
    0x358637BD#32)))))) (broadcastInDim S8x4096x1024 ![0, 1, 2] bcast_S1x1x1024_S8x4096x1024_0_1_2 (broadcastInDim S1x1x1024 ![2]
    bcast_S1024_S1x1x1024_2 g))) (broadcastInDim S8x4096x1024 ![0, 1, 2] bcast_S8x1x1024_S8x4096x1024_0_1_2 (addf (broadcastInDim
    S8x1x1024 ![] bcast_S_S8x1x1024 (constant S_ .f32 0x3F800000#32)) (extractStridedSlice S8x1x1024 ![0, 0, 1024] (broadcastInDim
    S8x1x6144 ![0, 2] bcast_S8x6144_S8x1x6144_0_2 m) slices_S8x1x6144_S8x1x1024_0_0_1024)))) (broadcastInDim S8x4096x1024 ![0, 1, 2]
    bcast_S8x1x1024_S8x4096x1024_0_1_2 (extractStridedSlice S8x1x1024 ![0, 0, 0] (broadcastInDim S8x1x6144 ![0, 2]
    bcast_S8x6144_S8x1x6144_0_2 m) slices_S8x1x6144_S8x1x1024_0_0_0))) w

/-- The latents' projection at an index. -/
theorem latProj_at (x : FVec Ideal S8x4096x1024 .f32) (m : FVec Ideal S8x6144 .f32) (g : FVec Ideal S1024 .f32)
    (w : FVec Ideal S1024x2560 .f32) (b : Fin 8) (q : Fin 4096) (n : Fin 2560) : latProj x m g w (ix3 b q n)
    = column (fun d => x (ix3 b q d)) (fun d => g (ix1 d)) (fun d => m (ix2 b (scaleAt d))) (fun d => m (ix2 b (shiftAt d)))
        fun d => w (ix2 d n) := by
  pointwise [latProj, column, modulated]
  rfl

/-- The context's projection, as the reference spells it. -/
def ctxProj (x : FVec Ideal S8x256x1024 .f32) (n : FVec Ideal S6144 .f32) (g : FVec Ideal S1024 .f32)
    (w : FVec Ideal S1024x2560 .f32) : FVec Ideal S8x256x2560 .f32 :=
  Host.dotGeneral dot_S8x256x1024_S1024x2560_S8x256x2560_2_0_01_1_n_n none (addf (mulf (mulf (mulf x (broadcastInDim S8x256x1024 ![0, 1,
    2] bcast_S8x256x1_S8x256x1024_0_1_2 (Host.rsqrt (addf (Host.divf (broadcastInDim S8x256x1 ![0, 1] bcast_S8x256_S8x256x1_0_1
    (Host.reduceAdd (mulf x x) (constant S_ .f32 0x00000000#32) reducesTo_S8x256x1024_S8x256_d2 h_S_)) (broadcastInDim S8x256x1 ![]
    bcast_S_S8x256x1 (constant S_ .f32 0x44800000#32))) (broadcastInDim S8x256x1 ![] bcast_S_S8x256x1 (constant S_ .f32
    0x358637BD#32)))))) (broadcastInDim S8x256x1024 ![0, 1, 2] bcast_S1x1x1024_S8x256x1024_0_1_2 (broadcastInDim S1x1x1024 ![2]
    bcast_S1024_S1x1x1024_2 g))) (broadcastInDim S8x256x1024 ![0, 1, 2] bcast_S1x1x1024_S8x256x1024_0_1_2 (broadcastInDim S1x1x1024 ![2]
    bcast_S1024_S1x1x1024_2 (addf (broadcastInDim S1024 ![] bcast_S_S1024 (constant S_ .f32 0x3F800000#32)) (extractStridedSlice S1024
    ![1024] n slices_S6144_S1024_1024))))) (broadcastInDim S8x256x1024 ![0, 1, 2] bcast_S1x1x1024_S8x256x1024_0_1_2 (broadcastInDim
    S1x1x1024 ![2] bcast_S1024_S1x1x1024_2 (extractStridedSlice S1024 ![0] n slices_S6144_S1024_0)))) w

/-- The context's projection at an index. -/
theorem ctxProj_at (x : FVec Ideal S8x256x1024 .f32) (m : FVec Ideal S6144 .f32) (g : FVec Ideal S1024 .f32)
    (w : FVec Ideal S1024x2560 .f32) (b : Fin 8) (q : Fin 256) (n : Fin 2560) : ctxProj x m g w (ix3 b q n)
    = column (fun d => x (ix3 b q d)) (fun d => g (ix1 d)) (fun d => m (ix1 (scaleAt d))) (fun d => m (ix1 (shiftAt d)))
        fun d => w (ix2 d n) := by
  pointwise [ctxProj, column, modulated]
  rfl

/-- The rotation's angles, as the reference spells them. -/
def angles : FVec Ideal S4096x32 .f32 :=
  concatenate S4096x32 1 [⟨S4096x16, (mulf (broadcastInDim S4096x16 ![0, 1] bcast_S4096x1_S4096x16_0_1 (broadcastInDim S4096x1 ![0]
    bcast_S4096_S4096x1_0 (shapeCast _ (broadcastInDim S64x64 ![0] bcast_S64_S64x64_0 (sitofp .f32 (iotaInDim S64 32 0)))
    shapeCasts_S64x64_S4096))) (broadcastInDim S4096x16 ![0, 1] bcast_S1x16_S4096x16_0_1 (broadcastInDim S1x16 ![1] bcast_S16_S1x16_1
    (Host.powf (broadcastInDim S16 ![] bcast_S_S16 (constant S_ .f32 0x461C4000#32)) (Host.divf (Host.negf (sitofp .f32 (iotaInDim S16 32
    0))) (broadcastInDim S16 ![] bcast_S_S16 (constant S_ .f32 0x41800000#32)))))))⟩, ⟨S4096x16, (mulf (broadcastInDim S4096x16 ![0, 1]
    bcast_S4096x1_S4096x16_0_1 (broadcastInDim S4096x1 ![0] bcast_S4096_S4096x1_0 (shapeCast _ (broadcastInDim S64x64 ![0, 1]
    bcast_S1x64_S64x64_0_1 (shapeCast _ (sitofp .f32 (iotaInDim S64 32 0)) shapeCasts_S64_S1x64)) shapeCasts_S64x64_S4096)))
    (broadcastInDim S4096x16 ![0, 1] bcast_S1x16_S4096x16_0_1 (broadcastInDim S1x16 ![1] bcast_S16_S1x16_1 (Host.powf (broadcastInDim S16
    ![] bcast_S_S16 (constant S_ .f32 0x461C4000#32)) (Host.divf (Host.negf (sitofp .f32 (iotaInDim S16 32 0))) (broadcastInDim S16 ![]
    bcast_S_S16 (constant S_ .f32 0x41800000#32)))))))⟩] concatenates_S4096x16_S4096x16_S4096x32_d1

/-- The angle of a pair at a position. -/
theorem angles_at (q : Fin 4096) (x : Fin 32) : (angles (ix2 q x) : EReal) = Attn.angle q.val x.val := by
  pointwise [angles]
  rfl

/-- The latents' rows `t` rotated and the context's rows `u` after them, as the reference spells it. -/
def turnedRows (t : FVec Ideal S8x4096x512 .f32) (u : FVec Ideal S8x256x512 .f32) : FVec Ideal S8x4352x512 .bf16 :=
  truncf .bf16 (concatenate S8x4352x512 1 [⟨S8x4096x512, (shapeCast S8x4096x512 (transpose S8x4096x4x2x64 [0, 3, 1, 2, 4] (concatenate
    S8x4x2x4096x64 4 [⟨S8x4x2x4096x32, (subf (mulf (extractStridedSlice S8x4x2x4096x32 ![0, 0, 0, 0, 0] (transpose S8x4x2x4096x64 [0, 2,
    3, 1, 4] (shapeCast _ t shapeCasts_S8x4096x512_S8x4096x4x2x64) transposes_S8x4096x4x2x64_S8x4x2x4096x64_0_2_3_1_4)
    slices_S8x4x2x4096x64_S8x4x2x4096x32_0_0_0_0_0) (broadcastInDim S8x4x2x4096x32 ![0, 1, 2, 3, 4]
    bcast_S1x1x1x4096x32_S8x4x2x4096x32_0_1_2_3_4 (broadcastInDim S1x1x1x4096x32 ![3, 4] bcast_S4096x32_S1x1x1x4096x32_3_4 (Host.cos
    angles)))) (mulf (extractStridedSlice S8x4x2x4096x32 ![0, 0, 0, 0, 32] (transpose S8x4x2x4096x64 [0, 2, 3, 1, 4] (shapeCast _ t
    shapeCasts_S8x4096x512_S8x4096x4x2x64) transposes_S8x4096x4x2x64_S8x4x2x4096x64_0_2_3_1_4)
    slices_S8x4x2x4096x64_S8x4x2x4096x32_0_0_0_0_32) (broadcastInDim S8x4x2x4096x32 ![0, 1, 2, 3, 4]
    bcast_S1x1x1x4096x32_S8x4x2x4096x32_0_1_2_3_4 (broadcastInDim S1x1x1x4096x32 ![3, 4] bcast_S4096x32_S1x1x1x4096x32_3_4 (Host.sin
    angles)))))⟩, ⟨S8x4x2x4096x32, (addf (mulf (extractStridedSlice S8x4x2x4096x32 ![0, 0, 0, 0, 0] (transpose S8x4x2x4096x64 [0, 2, 3, 1,
    4] (shapeCast _ t shapeCasts_S8x4096x512_S8x4096x4x2x64) transposes_S8x4096x4x2x64_S8x4x2x4096x64_0_2_3_1_4)
    slices_S8x4x2x4096x64_S8x4x2x4096x32_0_0_0_0_0) (broadcastInDim S8x4x2x4096x32 ![0, 1, 2, 3, 4]
    bcast_S1x1x1x4096x32_S8x4x2x4096x32_0_1_2_3_4 (broadcastInDim S1x1x1x4096x32 ![3, 4] bcast_S4096x32_S1x1x1x4096x32_3_4 (Host.sin
    angles)))) (mulf (extractStridedSlice S8x4x2x4096x32 ![0, 0, 0, 0, 32] (transpose S8x4x2x4096x64 [0, 2, 3, 1, 4] (shapeCast _ t
    shapeCasts_S8x4096x512_S8x4096x4x2x64) transposes_S8x4096x4x2x64_S8x4x2x4096x64_0_2_3_1_4)
    slices_S8x4x2x4096x64_S8x4x2x4096x32_0_0_0_0_32) (broadcastInDim S8x4x2x4096x32 ![0, 1, 2, 3, 4]
    bcast_S1x1x1x4096x32_S8x4x2x4096x32_0_1_2_3_4 (broadcastInDim S1x1x1x4096x32 ![3, 4] bcast_S4096x32_S1x1x1x4096x32_3_4 (Host.cos
    angles)))))⟩] concatenates_S8x4x2x4096x32_S8x4x2x4096x32_S8x4x2x4096x64_d4) transposes_S8x4x2x4096x64_S8x4096x4x2x64_0_3_1_2_4)
    shapeCasts_S8x4096x4x2x64_S8x4096x512)⟩, ⟨S8x256x512, u⟩] concatenates_S8x4096x512_S8x256x512_S8x4352x512_d1) bitsLt_bf16_f32

/-- Those rows at an index. -/
theorem turnedRows_at (t : FVec Ideal S8x4096x512 .f32) (u : FVec Ideal S8x256x512 .f32) (b : Fin 8) (q : Fin 4352) (l : Fin 512) :
    (turnedRows t u (ix3 b q l) : EReal) = rotatedRow
      (fun l => if h : q.val < 4096 then t (ix3 b ⟨q.val, h⟩ l) else u (ix3 b ⟨q.val - 4096, by omega⟩ l)) q l := by
  pointwise [turnedRows, angles_at]
  by_cases hq : q.val < 4096
  · refine (dif_pos hq).trans ((rotated_spelt (fun l => t (ix3 b ⟨q.val, hq⟩ l)) q.val l).trans ?_)
    refine (rotatedRow_lat _ _ q l hq fun l => ?_).symm
    exact dif_pos hq
  · refine (dif_neg hq).trans ?_
    exact (rotatedRow_ctx _ _ q l hq (dif_neg hq)).symm

/-- The latents' rows and the context's after them, neither rotated, as the reference spells it. -/
def plainRows (t : FVec Ideal S8x4096x512 .f32) (u : FVec Ideal S8x256x512 .f32) : FVec Ideal S8x4352x512 .bf16 :=
  truncf .bf16 (concatenate S8x4352x512 1 [⟨S8x4096x512, t⟩, ⟨S8x256x512, u⟩] concatenates_S8x4096x512_S8x256x512_S8x4352x512_d1)
    bitsLt_bf16_f32

/-- Those rows at an index. -/
theorem plainRows_at (t : FVec Ideal S8x4096x512 .f32) (u : FVec Ideal S8x256x512 .f32) (b : Fin 8) (q : Fin 4352) (l : Fin 512) :
    (plainRows t u (ix3 b q l) : EReal)
      = if h : q.val < 4096 then t (ix3 b ⟨q.val, h⟩ l) else u (ix3 b ⟨q.val - 4096, by omega⟩ l) := by
  pointwise [plainRows]

/-- The third branch's channels of the latents and the context, the batches side by side, as the reference spells it. -/
def sideBySide (t : FVec Ideal S8x4096x256 .f32) (u : FVec Ideal S8x256x256 .f32) : FVec Ideal S4352x2048 .f32 :=
  shapeCast S4352x2048 (transpose S4352x8x256 [1, 0, 2] (concatenate S8x4352x256 1 [⟨S8x4096x256, t⟩, ⟨S8x256x256, u⟩]
    concatenates_S8x4096x256_S8x256x256_S8x4352x256_d1) transposes_S8x4352x256_S4352x8x256_1_0_2) shapeCasts_S4352x8x256_S4352x2048

/-- Those channels at an index. -/
theorem sideBySide_at (t : FVec Ideal S8x4096x256 .f32) (u : FVec Ideal S8x256x256 .f32) (q : Fin 4352) (l : Fin 2048) :
    (sideBySide t u (ix2 q l) : EReal) = if h : q.val < 4096 then t (ix3 ⟨l.val / 256, by omega⟩ ⟨q.val, h⟩ ⟨l.val % 256, by omega⟩)
      else u (ix3 ⟨l.val / 256, by omega⟩ ⟨q.val - 4096, by omega⟩ ⟨l.val % 256, by omega⟩) := by
  pointwise [sideBySide]

section
variable (x : FVec Ideal S8x4096x1024 .f32) (y : FVec Ideal S8x256x1024 .f32) (m : FVec Ideal S8x6144 .f32) (n : FVec Ideal S6144 .f32)
  (g : FVec Ideal S1024 .f32) (w : FVec Ideal S1024x2560 .f32)

/-- The two projections' columns, joined, are the projection's. -/
theorem joined_at (b : Fin 8) (q : Fin 4352) (k : Fin 2560) :
    (if h : q.val < 4096 then latProj x m g w (ix3 b ⟨q.val, h⟩ k) else ctxProj y n g w (ix3 b ⟨q.val - 4096, by omega⟩ k) : EReal)
      = projected (fun b q d => x (ix3 b q d)) (fun b q d => y (ix3 b q d)) (fun b k => m (ix2 b k)) (fun k => n (ix1 k))
          (fun d => g (ix1 d)) (fun d k => w (ix2 d k)) b q k := by
  unfold projected
  split
  · exact latProj_at x m g w b _ k
  · exact ctxProj_at y n g w b _ k
end

end Cert.Proj.Ref

end
-- ==== Proof.ProjTile.lean ====
/- What the input projection's body computes for one tile of 256 tokens, read at an index. -/
module

public import proofs.«01_k».proof.Proof.Proj
public import proofs.«01_k».proof.Proof.Gen.Kernel2Ideal.Skeleton
public import Idealize.ShloMosaic.Lib.Pointwise

@[expose] public section

set_option maxRecDepth 16384

noncomputable section

namespace Cert.Proj

open Cert.Kernel2Ideal Cert.Kernel2Ideal.Gen Idealize.ShloMosaic

/-- A row of the tile among the rows of the tile and its two halos. -/
def tileRow (r : Fin 256) : Fin 272 := ⟨r.val, by omega⟩

/-- The tile's tokens normalised and modulated. -/
theorem modulated_at (g : FVec Ideal S1x1024 .f32) (t s : FVec Ideal S1x1x1024 .f32) (x : FVec Ideal S1x256x1024 .f32)
    (r : Fin 256) (d : Fin 1024) : k0_pay6 (F := Ideal) g t s x (ix2 r d)
    = modulated (fun e => x (ix3 0 r e)) (fun e => g (ix2 0 e)) (fun e => s (ix3 0 0 e)) (fun e => t (ix3 0 0 e)) d := by
  pointwise [k0_pay6, k0_pay3, k0_pay4, k0_pay5, modulated]

/-- The projection of the tile's rows: the halos' rows come after them. -/
theorem product_at (v1 v3 v5 : FVec Ideal S1x1024 .f32) (A : FVec Ideal S256x1024 .f32) (v27 v36 : FVec Ideal S8x1024 .f32)
    (v46 : FVec Ideal S1x8x1024 .f32) (w : FVec Ideal S1024x2560 .bf16) (r : Fin 256) (n : Fin 2560) :
    k0_pay9 (F := Ideal) v1 v3 v5 A v27 v36 v46 w (ix2 (tileRow r) n) = ∑ d, A (ix2 r d) * w (ix2 d n) := by
  pointwise [k0_pay9]
  refine Finset.sum_congr rfl fun d _ => ?_
  rw [dif_pos (show (tileRow r).val < 256 from r.isLt)]
  rfl

section
variable (p : FVec Ideal S272x2560 .f32) (r : Fin 256)

/-- The columns of the third branch's channels. -/
theorem channels_at (l : Fin 256) : k0_pay16 (F := Ideal) p (ix2 r l) = p (ix2 (tileRow r) ⟨768 + l.val, by omega⟩) := by
  pointwise [k0_pay16]
  rfl

/-- The columns of the queries. -/
theorem queries_at (l : Fin 512) : k0_pay21 (F := Ideal) p (ix3 0 r l) = p (ix2 (tileRow r) ⟨1024 + l.val, by omega⟩) := by
  pointwise [k0_pay21, k0_pay20]
  rfl

/-- The columns of the values. -/
theorem values_at (l : Fin 512) : k0_pay2 (F := Ideal) p (ix3 0 r l) = p (ix2 (tileRow r) ⟨2048 + l.val, by omega⟩) := by
  pointwise [k0_pay2]
  rfl

/-- The mask of the first half of every 64 lanes selects by the lane. -/
theorem half_select (l : Fin 512) (a b : EReal) : Scalar.select (k0_pay17 (ix2 0 l)) a b = if l.val % 64 < 32 then a else b := by
  have h : (k0_pay17 (ix2 0 l) : BitVec 1) = if l.val % 64 < 32 then 1#1 else 0#1 := by
    pointwise [k0_pay17]
    revert l; decide +kernel
  rw [h]; split <;> rfl

/-- The rotated queries. -/
theorem turnedQ_at (cos sin : FVec Ideal S256x512 .f32) (l : Fin 512) : k0_pay22 (F := Ideal) p cos sin (ix3 0 r l)
    = turned (fun l => p (ix2 (tileRow r) ⟨1024 + l.val, by omega⟩)) (fun l => cos (ix2 r l)) (fun l => sin (ix2 r l)) l := by
  pointwise [k0_pay22, k0_pay20, k0_pay18, k0_pay19, half_select]
  rfl

/-- The rotated keys. -/
theorem turnedK_at (cos sin : FVec Ideal S256x512 .f32) (l : Fin 512) :
    k0_pay1 (F := Ideal) k0_pay17 (k0_pay18 cos) (k0_pay19 sin) (k0_pay23 p) (k0_pay24 p) 32#32 (ix3 0 r l)
    = turned (fun l => p (ix2 (tileRow r) ⟨1536 + l.val, by omega⟩)) (fun l => cos (ix2 r l)) (fun l => sin (ix2 r l)) l := by
  pointwise [k0_pay1, k0_pay23, k0_pay24, k0_pay18, k0_pay19, half_select]
  rfl
end

end Cert.Proj

end
-- ==== Proof.ProjConvTile.lean ====
/- What the input projection's body computes of the short convolution for one tile of 256 tokens, read at an index. -/
module

public import proofs.«01_k».proof.Proof.ProjTile

@[expose] public section

set_option maxRecDepth 16384

noncomputable section

namespace Cert.Proj

open Cert.Kernel2Ideal Cert.Kernel2Ideal.Gen Idealize.ShloMosaic

/-- A row of a tile or halo of eight, normalised, modulated and projected: the last token before the tile. -/
theorem before_at (g : FVec Ideal S1x1024 .f32) (t s : FVec Ideal S1x1x1024 .f32) (A : FVec Ideal S256x1024 .f32)
    (x y : FVec Ideal S1x8x1024 .f32) (w : FVec Ideal S1024x2560 .bf16) (n : Fin 2560) :
    k0_pay9 (F := Ideal) (k0_pay3 g) (k0_pay4 t) (k0_pay5 s) A (k0_pay7 x) (k0_pay8 x) y w (ix2 263 n)
    = column (fun e => x (ix3 0 7 e)) (fun e => g (ix2 0 e)) (fun e => s (ix3 0 0 e)) (fun e => t (ix3 0 0 e)) (fun d => w (ix2 d n)) := by
  pointwise [k0_pay9, k0_pay3, k0_pay4, k0_pay5, k0_pay7, k0_pay8, column, modulated]

/-- The first token after the tile. -/
theorem after_at (g : FVec Ideal S1x1024 .f32) (t s : FVec Ideal S1x1x1024 .f32) (A : FVec Ideal S256x1024 .f32)
    (x y : FVec Ideal S1x8x1024 .f32) (w : FVec Ideal S1024x2560 .bf16) (n : Fin 2560) :
    k0_pay9 (F := Ideal) (k0_pay3 g) (k0_pay4 t) (k0_pay5 s) A (k0_pay7 x) (k0_pay8 x) y w (ix2 264 n)
    = column (fun e => y (ix3 0 0 e)) (fun e => g (ix2 0 e)) (fun e => s (ix3 0 0 e)) (fun e => t (ix3 0 0 e)) (fun d => w (ix2 d n)) := by
  pointwise [k0_pay9, k0_pay3, k0_pay4, k0_pay5, k0_pay7, k0_pay8, column, modulated]

section
variable (v1 v3 v5 : FVec Ideal S1x1024 .f32) (A : FVec Ideal S256x1024 .f32) (x x' : FVec Ideal S8x1024 .f32)
  (y : FVec Ideal S1x8x1024 .f32) (w : FVec Ideal S1024x2560 .bf16) (l : Fin 768)

/-- The tile's rows of the columns convolved. -/
theorem rows_at (r : Fin 256) : k0_pay10 (F := Ideal) v1 v3 v5 A x x' y w (ix2 r l)
    = k0_pay9 (F := Ideal) v1 v3 v5 A x x' y w (ix2 (tileRow r) ⟨l.val, by omega⟩) := by
  pointwise [k0_pay10]
  rfl

/-- The row before the tile of the columns convolved. -/
theorem beforeRow_at : k0_pay11 (F := Ideal) v1 v3 v5 A x x' y w (ix2 0 l)
    = k0_pay9 (F := Ideal) v1 v3 v5 A x x' y w (ix2 263 ⟨l.val, by omega⟩) := by
  pointwise [k0_pay11]
end

section
variable (p : FVec Ideal S272x2560 .f32) (q : FVec Ideal S256x768 .f32) (h h' : BitVec 1) (u : FVec Ideal S1x768 .f32)
  (a b c d : FVec Ideal S1x768 .f32) (r : Fin 256)

/-- The tile's rows convolved with the rows before and after them. -/
theorem conv_at (l : Fin 768) : k0_pay12 (F := Ideal) p q h h' u (Scalar.ofBits .f32 0x00000000#32) a b c d (ix2 r l)
    = conv (if r.val = 0 then (if h = 1#1 then u (ix2 0 l) else 0) else q (ix2 ⟨r.val - 1, by omega⟩ l)) (q (ix2 r l))
      (if hr : r.val < 255 then q (ix2 ⟨r.val + 1, by omega⟩ l) else (if h' = 1#1 then p (ix2 264 ⟨l.val, by omega⟩) else 0))
      (a (ix2 0 l)) (b (ix2 0 l)) (c (ix2 0 l)) (d (ix2 0 l)) := by
  pointwise [k0_pay12, conv]
  have e : IntOp.cmpi .eq (BitVec.ofNat 32 r.val) 0#32 = if r.val = 0 then 1#1 else 0#1 := by revert r; decide +kernel
  have e' : IntOp.cmpi .eq (BitVec.ofNat 32 r.val) 255#32 = if r.val < 255 then 0#1 else 1#1 := by revert r; decide +kernel
  refine congrArg₂ (fun x y : EReal => x * a (ix2 0 l) + q (ix2 r l) * b (ix2 0 l) + y * c (ix2 0 l) + d (ix2 0 l)) ?_ ?_
  · rw [e]
    by_cases hr : r.val = 0
    · rw [if_pos hr, if_pos hr]; rfl
    · rw [if_neg hr, if_neg hr]
      exact congrArg (fun i : Fin 256 => (q (ix2 i l) : EReal)) (Fin.ext (show (r.val + 256 - 1) % 256 = r.val - 1 by omega))
  · rw [e']
    by_cases hr : r.val < 255
    · rw [if_pos hr, dif_pos hr]
      exact congrArg (fun i : Fin 256 => (q (ix2 i l) : EReal)) (Fin.ext (show (r.val + 256 - 255) % 256 = r.val + 1 by omega))
    · rw [if_neg hr, dif_neg hr]; rfl

/-- The first third of the convolution. -/
theorem first_at (l : Fin 256) : k0_pay13 (F := Ideal) p q h h' u (Scalar.ofBits .f32 0x00000000#32) a b c d (ix3 0 r l)
    = k0_pay12 (F := Ideal) p q h h' u (Scalar.ofBits .f32 0x00000000#32) a b c d (ix2 r ⟨l.val, by omega⟩) := by
  pointwise [k0_pay13]

/-- The product of the other two thirds. -/
theorem rest_at (l : Fin 256) : k0_pay15 (F := Ideal) (k0_pay12 (F := Ideal) p q h h' u (Scalar.ofBits .f32 0x00000000#32) a b c d)
      (k0_pay14 (F := Ideal) p q h h' u (Scalar.ofBits .f32 0x00000000#32) a b c d) (ix3 0 r l)
    = k0_pay12 (F := Ideal) p q h h' u (Scalar.ofBits .f32 0x00000000#32) a b c d (ix2 r ⟨256 + l.val, by omega⟩)
      * k0_pay12 (F := Ideal) p q h h' u (Scalar.ofBits .f32 0x00000000#32) a b c d (ix2 r ⟨512 + l.val, by omega⟩) := by
  pointwise [k0_pay15, k0_pay14]
end

end Cert.Proj

end
-- ==== Proof.ProjHost.lean ====
/- The arrays that the host prepares for the input projection, at an index. -/
module

public import proofs.«01_k».proof.Proof.Proj
public import proofs.«01_k».proof.Proof.Gen.Kernel2Ideal.Frame
public import Idealize.ShloMosaic.Lib.Tactic.CleanTypes
public import Idealize.ShloMosaic.Lib.StableHlo.RunRead
public import Idealize.ShloMosaic.Lib.Pointwise

@[expose] public section

set_option maxRecDepth 16384

noncomputable section

namespace Cert.Proj

open Cert.Kernel2Ideal Cert.Kernel2Ideal.Gen Idealize.ShloMosaic Idealize.ShloMosaic.TcCoe Idealize.SL.Sem

/-- Two joined arrays are equal where their parts are. -/
theorem joined_congr {α : Type} (t : Shape) (d : Fin t.rank) (s s' : Shape) (x x' : s.Idx → α) (y y' : s'.Idx → α)
    (h : Shape.Concatenates ([(⟨s, x⟩ : (s : Shape) × (s.Idx → α)), ⟨s', y⟩].map (·.1)) t d) (hx : x = x') (hy : y = y') :
    concatenate t d [⟨s, x⟩, ⟨s', y⟩] h = concatenate t d [⟨s, x'⟩, ⟨s', y'⟩] (by subst hx hy; exact h) := by
  subst hx hy; rfl

attribute [local congr] joined_congr

variable (m : (ℓ : Loc nD τ sig) → Buf (Elt Ideal) ℓ) (c : Dev nD)

/-- The cosine's table: every 64 lanes alike, and one on the context's rows. -/
theorem cos_at (q : Fin 4352) (l : Fin 512) : (V m c main_v36 (ix2 q l) : EReal)
    = if q.val < 4096 then Ideal.cos (Attn.angle q.val (if l.val % 64 < 32 then l.val % 64 else l.val % 64 - 32)) else 1 := by
  unfold V
  after_reads_simp
  all_goals try simp -implicitDefEqProofs only [StableHlo.TRef.toBuf, StableHlo.TRef.ofBuf, cast_cast, cast_eq]
  clean_types
  pointwise
  split
  · split <;> rfl
  · rfl

/-- The sine's table, the first half of every 64 lanes negated, and zero on the context's rows. -/
theorem sin_at (q : Fin 4352) (l : Fin 512) : (V m c main_v38 (ix2 q l) : EReal)
    = if q.val < 4096 then (if l.val % 64 < 32 then -Ideal.sin (Attn.angle q.val (l.val % 64))
        else Ideal.sin (Attn.angle q.val (l.val % 64 - 32))) else 0 := by
  unfold V
  after_reads_simp
  all_goals try simp -implicitDefEqProofs only [StableHlo.TRef.toBuf, StableHlo.TRef.ofBuf, cast_cast, cast_eq]
  clean_types
  pointwise
  rfl

/-- The tokens joined. -/
theorem tokens_at (b : Fin 8) (q : Fin 4352) (d : Fin 1024) : (V m c main_v45 (ix3 b q d) : EReal)
    = if h : q.val < 4096 then m (c, Proc.tc.devRef main_arg0) (ix3 b ⟨q.val, h⟩ d)
      else m (c, Proc.tc.devRef main_arg1) (ix3 b ⟨q.val - 4096, by omega⟩ d) := by
  unfold V
  after_reads_simp
  all_goals try simp -implicitDefEqProofs only [StableHlo.TRef.toBuf, StableHlo.TRef.ofBuf, cast_cast, cast_eq]
  clean_types
  pointwise

/-- The modulation's numbers: two rows to a batch, the latents' and the context's. -/
theorem modulation_at (i : Fin 16) (k : Fin 6144) : (V m c main_v44 (ix3 i 0 k) : EReal)
    = if i.val % 2 < 1 then m (c, Proc.tc.devRef main_arg2) (ix2 ⟨i.val / 2, by omega⟩ k) else m (c, Proc.tc.devRef main_arg3) (ix1 k) := by
  unfold V
  after_reads_simp
  all_goals try simp -implicitDefEqProofs only [StableHlo.TRef.toBuf, StableHlo.TRef.ofBuf, cast_cast, cast_eq]
  clean_types
  pointwise
  rfl

/-- The gain. -/
theorem gain_at (d : Fin 1024) : (V m c main_v47 (ix2 0 d) : EReal) = m (c, Proc.tc.devRef main_arg4) (ix1 d) := by
  unfold V
  after_reads_simp
  all_goals try simp -implicitDefEqProofs only [StableHlo.TRef.toBuf, StableHlo.TRef.ofBuf, cast_cast, cast_eq]
  clean_types
  pointwise

/-- The weights. -/
theorem weights_at (d : Fin 1024) (n : Fin 2560) : (V m c main_v46 (ix2 d n) : EReal) = m (c, Proc.tc.devRef main_arg5) (ix2 d n) := by
  unfold V
  after_reads_simp
  all_goals try simp -implicitDefEqProofs only [StableHlo.TRef.toBuf, StableHlo.TRef.ofBuf, cast_cast, cast_eq]
  clean_types
  pointwise

end Cert.Proj

end
-- ==== Proof.ProjArray.lean ====
/- What the input projection's result arrays hold once the grid is done. -/
module

public import proofs.«01_k».proof.Proof.ProjTile
public import proofs.«01_k».proof.Proof.ProjHost
public import proofs.«01_k».proof.Proof.Gen.Kernel2Ideal.Value
public import Idealize.ShloMosaic.Lib.Pipeline.ValueKit

@[expose] public section

set_option maxRecDepth 16384

noncomputable section

namespace Cert.Proj

open Cert.Kernel2Ideal Cert.Kernel2Ideal.Gen Idealize.ShloMosaic Idealize.ShloMosaic.TcCoe Idealize.SL.Sem

/-- The block indices of the windows at a point of the grid. -/
theorem idx : ∀ t : Fin cfg0.N, win0_0.index t = ![t.val / 17, t.val % 17, 0] ∧ win0_3.index t = ![2 * (t.val / 17) + t.val % 17 / 16, 0, 0]
    ∧ win0_4.index t = ![0, 0] ∧ win0_5.index t = ![0, 0] ∧ win0_8.index t = ![t.val % 17, 0] ∧ win0_9.index t = ![t.val % 17, 0]
    ∧ win0_12.index t = ![t.val % 17, t.val / 17] ∧ win0_13.index t = ![t.val / 17, t.val % 17, 0]
    ∧ win0_14.index t = ![t.val / 17, t.val % 17, 0] ∧ win0_15.index t = ![t.val / 17, t.val % 17, 0]
    ∧ win0_16.index t = ![t.val / 17, t.val % 17, 0] :=
  (by decide +kernel : ∀ t : Fin grid0.N, _)

/-- Where a rectangle of unit stride puts an index. -/
theorem unit_val {s : Shape} (off size : Fin s.rank → ℕ) (inb : ∀ a, off a + size a ≤ s.size a)
    (j : (Rect.unit off size inb).shape.Idx) (a : Fin s.rank) : ((Rect.unit off size inb).idx j a).val = off a + (j a).val := by
  show off a + 1 * (j a).val = _
  omega

variable (m : (ℓ : Loc nD τ sig) → Buf (Elt Ideal) ℓ) (c : Dev nD)

/-- The projection of the arguments. -/
def proj (b : Fin 8) (q : Fin 4352) (n : Fin 2560) : EReal :=
  projected (fun b q d => m (c, Proc.tc.devRef main_arg0) (ix3 b q d)) (fun b q d => m (c, Proc.tc.devRef main_arg1) (ix3 b q d))
    (fun b k => m (c, Proc.tc.devRef main_arg2) (ix2 b k)) (fun k => m (c, Proc.tc.devRef main_arg3) (ix1 k))
    (fun d => m (c, Proc.tc.devRef main_arg4) (ix1 d)) (fun d n => m (c, Proc.tc.devRef main_arg5) (ix2 d n)) b q n

/-- A column of the prepared arrays is the projection's. -/
theorem column_eq (b : Fin 8) (q : Fin 4352) (n : Fin 2560) (i : Fin 16) (hi : i.val = 2 * b.val + q.val / 4096) :
    column (fun e => V m c main_v45 (ix3 b q e)) (fun e => V m c main_v47 (ix2 0 e)) (fun e => V m c main_v44 (ix3 i 0 (scaleAt e)))
      (fun e => V m c main_v44 (ix3 i 0 (shiftAt e))) (fun d => V m c main_v46 (ix2 d n)) = proj m c b q n := by
  have hb : (⟨i.val / 2, by omega⟩ : Fin 8) = b := Fin.ext (show i.val / 2 = b.val by omega)
  by_cases hq : q.val < 4096
  · have hM : ∀ k, (V m c main_v44 (ix3 i 0 k) : EReal) = m (c, Proc.tc.devRef main_arg2) (ix2 b k) := fun k =>
      (modulation_at m c i k).trans ((if_pos (show i.val % 2 < 1 by omega)).trans
        (congrArg (fun b : Fin 8 => (m (c, Proc.tc.devRef main_arg2) (ix2 b k) : EReal)) hb))
    exact projected_lat _ _ _ _ _ _ b q n hq _ _ _ _ _ (fun d => (tokens_at m c b q d).trans (dif_pos hq)) (fun d => gain_at m c d)
      (fun d => hM _) (fun d => hM _) fun d => weights_at m c d n
  · have hM : ∀ k, (V m c main_v44 (ix3 i 0 k) : EReal) = m (c, Proc.tc.devRef main_arg3) (ix1 k) := fun k =>
      (modulation_at m c i k).trans (if_neg (show ¬ i.val % 2 < 1 by omega))
    exact projected_ctx _ _ _ _ _ _ b q n hq _ _ _ _ _ (fun d => (tokens_at m c b q d).trans (dif_neg hq)) (fun d => gain_at m c d)
      (fun d => hM _) (fun d => hM _) fun d => weights_at m c d n

/-- The tokens' block at a point. -/
theorem tokens_blk (t : Fin cfg0.N) (j : S1x256x1024.Idx) (i : S8x4352x1024.Idx) (h0 : (i 0).val = t.val / 17)
    (h1 : (i 1).val = t.val % 17 * 256 + (j 1).val) (h2 : (i 2).val = (j 2).val) : iblk m c 0 t j = V m c main_v45 i := by
  blk_ext [iblk, idx t]

/-- The modulation's block at a point. -/
theorem modulation_blk (t : Fin cfg0.N) (j : S1x1x6144.Idx) (i : S16x1x6144.Idx) (h0 : (i 0).val = 2 * (t.val / 17) + t.val % 17 / 16)
    (h2 : (i 2).val = (j 2).val) : iblk m c 3 t j = V m c main_v44 i := by
  blk_ext [iblk, idx t]

/-- The gain's block at a point. -/
theorem gain_blk (t : Fin cfg0.N) (j i : S1x1024.Idx) (h1 : (i 1).val = (j 1).val) : iblk m c 4 t j = V m c main_v47 i := by
  blk_ext [iblk, idx t]

/-- The weights' block at a point. -/
theorem weights_blk (t : Fin cfg0.N) (j i : S1024x2560.Idx) (h0 : (i 0).val = (j 0).val) (h1 : (i 1).val = (j 1).val) :
    iblk m c 5 t j = V m c main_v46 i := by
  blk_ext [iblk, idx t]

/-- The cosine's block at a point. -/
theorem cos_blk (t : Fin cfg0.N) (j : S256x512.Idx) (i : S4352x512.Idx) (h0 : (i 0).val = t.val % 17 * 256 + (j 0).val)
    (h1 : (i 1).val = (j 1).val) : iblk m c 8 t j = V m c main_v36 i := by
  blk_ext [iblk, idx t]

/-- The sine's block at a point. -/
theorem sin_blk (t : Fin cfg0.N) (j : S256x512.Idx) (i : S4352x512.Idx) (h0 : (i 0).val = t.val % 17 * 256 + (j 0).val)
    (h1 : (i 1).val = (j 1).val) : iblk m c 9 t j = V m c main_v38 i := by
  blk_ext [iblk, idx t]

/-- The projection of the tile at a point of the grid. -/
def tileP (t : Fin cfg0.N) : FVec Ideal S272x2560 .f32 :=
  k0_pay31 (grid0.coords t) (iblk m c 0 t) (iblk m c 1 t) (iblk m c 2 t) (iblk m c 3 t) (iblk m c 4 t) (iblk m c 5 t) (iblk m c 6 t)
    (iblk m c 7 t) (iblk m c 8 t) (iblk m c 9 t)

/-- A token's column, from the blocks at a point, is the projection's. -/
theorem column_tile (t : Fin cfg0.N) (n : Fin 2560) (b : Fin 8) (q : Fin 4352)
    (hi' : 2 * b.val + q.val / 4096 = 2 * (t.val / 17) + t.val % 17 / 16) (x : Fin 1024 → EReal) (hX : ∀ e, x e = V m c main_v45 (ix3 b q e)) :
    column x (fun e => View.ld (iblk m c 4 t) r0_0 (ix2 0 e)) (fun e => View.ld (iblk m c 3 t) r0_2 (ix3 0 0 e))
      (fun e => View.ld (iblk m c 3 t) r0_1 (ix3 0 0 e)) (fun d => View.ld (iblk m c 5 t) r0_5 (ix2 d n)) = proj m c b q n := by
  have hi : 2 * b.val + q.val / 4096 < 16 := by omega
  refine Eq.trans ?_ (column_eq m c b q n ⟨2 * b.val + q.val / 4096, hi⟩ rfl)
  have hG : ∀ e, (View.ld (iblk m c 4 t) r0_0 (ix2 0 e) : EReal) = V m c main_v47 (ix2 0 e) := fun e =>
    gain_blk m c t _ _ ((unit_val _ _ _ _ 1).trans (Nat.zero_add _)).symm
  have hS : ∀ e, (View.ld (iblk m c 3 t) r0_2 (ix3 0 0 e) : EReal) = V m c main_v44 (ix3 ⟨2 * b.val + q.val / 4096, hi⟩ 0 (scaleAt e)) :=
    fun e => modulation_blk m c t _ _ hi'
      (unit_val (s := S1x1x6144) ![0, 0, 1024] S1x1x1024.size inb_S1x1x6144_S1x1x1024_0_0_1024 (ix3 0 0 e) 2).symm
  have hT : ∀ e, (View.ld (iblk m c 3 t) r0_1 (ix3 0 0 e) : EReal) = V m c main_v44 (ix3 ⟨2 * b.val + q.val / 4096, hi⟩ 0 (shiftAt e)) :=
    fun e => modulation_blk m c t _ _ hi' ((unit_val _ _ _ _ 2).trans (Nat.zero_add _)).symm
  have hW : ∀ d, (View.ld (iblk m c 5 t) r0_5 (ix2 d n) : EReal) = V m c main_v46 (ix2 d n) := fun d =>
    weights_blk m c t _ _ ((unit_val _ _ _ _ 0).trans (Nat.zero_add _)).symm ((unit_val _ _ _ _ 1).trans (Nat.zero_add _)).symm
  exact congr (congr (congr (congr (congrArg column (funext hX)) (funext hG)) (funext hS)) (funext hT)) (funext hW)

/-- The tile's projection at an index. -/
theorem tileP_at (t : Fin cfg0.N) (r : Fin 256) (n : Fin 2560) (b : Fin 8) (q : Fin 4352) (hb : b.val = t.val / 17)
    (hq : q.val = t.val % 17 * 256 + r.val) : (tileP m c t (ix2 (tileRow r) n) : EReal) = proj m c b q n := by
  unfold tileP k0_pay31
  refine (product_at _ _ _ _ _ _ _ _ r n).trans ?_
  refine Eq.trans ?_ (column_tile m c t n b q (by have := r.isLt; omega) (fun e => View.ld (iblk m c 0 t) r0_3 (ix3 0 r e)) fun e =>
    tokens_blk m c t _ _ hb (hq.trans (congrArg _ ((unit_val _ _ _ _ 1).trans (Nat.zero_add _)).symm))
      ((unit_val _ _ _ _ 2).trans (Nat.zero_add _)).symm)
  unfold column k0_pay28
  exact Finset.sum_congr rfl fun d _ => congrArg (fun a : EReal => a * View.ld (iblk m c 5 t) r0_5 (ix2 d n)) (modulated_at _ _ _ _ r d)

/-- The third branch's channels as a function of the index, the batches side by side. -/
def channels : S4352x2048.Idx → EReal := fun y =>
  proj m c ⟨(y 1).val / 256, Nat.div_lt_of_lt_mul (y 1).isLt⟩ (y 0) ⟨768 + (y 1).val % 256, by omega⟩

/-- The queries, before the rotation, as a function of the index. -/
def queries : S8x4352x512.Idx → EReal := fun y => proj m c (y 0) (y 1) ⟨1024 + (y 2).val, by have : (y 2).val < 512 := (y 2).isLt; omega⟩

/-- The values as a function of the index. -/
def values : S8x4352x512.Idx → EReal := fun y => proj m c (y 0) (y 1) ⟨2048 + (y 2).val, by have : (y 2).val < 512 := (y 2).isLt; omega⟩

/-- The rotated queries as a function of the index. -/
def queriesR : S8x4352x512.Idx → EReal := fun y =>
  rotatedRow (fun l => proj m c (y 0) (y 1) ⟨1024 + l.val, by omega⟩) (y 1) (y 2)

/-- The rotated keys as a function of the index. -/
def keysR : S8x4352x512.Idx → EReal := fun y =>
  rotatedRow (fun l => proj m c (y 0) (y 1) ⟨1536 + l.val, by omega⟩) (y 1) (y 2)

/-- An index of a block with one row of batches, spelt out. -/
theorem idx_eq (x : S1x256x512.Idx) : x = ix3 0 (x 1) (x 2) := by
  funext a; match a with
  | ⟨0, _⟩ => exact Fin.ext (by have := (x 0).isLt; show (x 0).val = 0; change (x 0).val < 1 at this; omega)
  | ⟨1, _⟩ => rfl
  | ⟨2, _⟩ => rfl

section
variable (t : Fin cfg0.N) (x : S1x256x512.Idx) (i : S8x4352x512.Idx) (f0 : (i 0).val = t.val / 17)
  (f1 : (i 1).val = t.val % 17 * 256 + (x 1).val) (f2 : (i 2).val = (x 2).val)

include f0 f1 f2 in
/-- A tile's queries are the array's. -/
theorem queries_tile : k0_pay21 (F := Ideal) (tileP m c t) x = queries m c i := by
  refine (congrArg _ (idx_eq x)).trans ((queries_at (tileP m c t) (x 1) (x 2)).trans ?_)
  refine (tileP_at m c t (x 1) _ (i 0) (i 1) f0 f1).trans ?_
  exact congrArg (proj m c (i 0) (i 1)) (Fin.ext (congrArg (1024 + ·) f2.symm))

include f0 f1 f2 in
/-- A tile's values are the array's. -/
theorem values_tile : k0_pay2 (F := Ideal) (tileP m c t) x = values m c i := by
  refine (congrArg _ (idx_eq x)).trans ((values_at (tileP m c t) (x 1) (x 2)).trans ?_)
  refine (tileP_at m c t (x 1) _ (i 0) (i 1) f0 f1).trans ?_
  exact congrArg (proj m c (i 0) (i 1)) (Fin.ext (congrArg (2048 + ·) f2.symm))

include f0 f1 f2 in
/-- A tile's row turned by the tables' blocks is the array's row rotated. -/
theorem turned_tile (o : ℕ) (ho : o ≤ 2048) : turned (fun l => tileP m c t (ix2 (tileRow (x 1)) ⟨o + l.val, by omega⟩))
    (fun l => View.ld (iblk m c 8 t) r0_12 (ix2 (x 1) l)) (fun l => View.ld (iblk m c 9 t) r0_12 (ix2 (x 1) l)) (x 2)
    = rotatedRow (fun l => proj m c (i 0) (i 1) ⟨o + l.val, by omega⟩) (i 1) (i 2) := by
  have e : (x 2 : Fin 512) = i 2 := Fin.ext f2.symm
  have hA : (fun l : Fin 512 => (tileP m c t (ix2 (tileRow (x 1)) ⟨o + l.val, by omega⟩) : EReal))
      = fun l => proj m c (i 0) (i 1) ⟨o + l.val, by omega⟩ := funext fun l => tileP_at m c t (x 1) _ (i 0) (i 1) f0 f1
  have hr : ∀ l : Fin 512, (i 1).val = t.val % 17 * 256 + (r0_12.idx (ix2 (x 1) l) 0).val := fun l =>
    f1.trans (congrArg _ ((unit_val _ _ _ _ 0).trans (Nat.zero_add _)).symm)
  have hl : ∀ l : Fin 512, l.val = (r0_12.idx (ix2 (x 1) l) 1).val := fun l => ((unit_val _ _ _ _ 1).trans (Nat.zero_add _)).symm
  refine (turned_eq _ _ _ (i 1) (x 2) ?_ ?_).trans ?_
  · exact (cos_blk m c t _ (ix2 (i 1) (x 2)) (hr _) (hl _)).trans (cos_at m c (i 1) (x 2))
  · exact (sin_blk m c t _ (ix2 (i 1) (x 2)) (hr _) (hl _)).trans (sin_at m c (i 1) (x 2))
  · exact congr (congrArg (fun A => rotatedRow A (i 1)) hA) e

include f0 f1 f2 in
/-- A tile's rotated queries are the array's. -/
theorem queriesR_tile : k0_pay22 (F := Ideal) (tileP m c t) (View.ld (iblk m c 8 t) r0_12) (View.ld (iblk m c 9 t) r0_12) x
    = queriesR m c i := by
  refine (congrArg _ (idx_eq x)).trans ((turnedQ_at (tileP m c t) (x 1) _ _ (x 2)).trans ?_)
  exact turned_tile m c t x i f0 f1 f2 1024 (by decide)

include f0 f1 f2 in
/-- A tile's rotated keys are the array's. -/
theorem keysR_tile : k0_pay1 (F := Ideal) k0_pay17 (k0_pay18 (View.ld (iblk m c 8 t) r0_12)) (k0_pay19 (View.ld (iblk m c 9 t) r0_12))
    (k0_pay23 (tileP m c t)) (k0_pay24 (tileP m c t)) 32#32 x = keysR m c i := by
  refine (congrArg _ (idx_eq x)).trans ((turnedK_at (tileP m c t) (x 1) _ _ (x 2)).trans ?_)
  exact turned_tile m c t x i f0 f1 f2 1536 (by decide)
end

/-- A tile's channels are the array's. -/
theorem channels_tile (t : Fin cfg0.N) (x : S256x256.Idx) (i : S4352x2048.Idx) (f0 : (i 0).val = t.val % 17 * 256 + (x 0).val)
    (f1 : (i 1).val = t.val / 17 * 256 + (x 1).val) : k0_pay16 (F := Ideal) (tileP m c t) x = channels m c i := by
  have hx : x = ix2 (x 0) (x 1) := by funext a; match a with | ⟨0, _⟩ => rfl | ⟨1, _⟩ => rfl
  have x1 : (x 1).val < 256 := (x 1).isLt
  refine (congrArg _ hx).trans ((channels_at (tileP m c t) (x 0) (x 1)).trans ?_)
  refine (tileP_at m c t (x 0) _ ⟨(i 1).val / 256, Nat.div_lt_of_lt_mul (i 1).isLt⟩ (i 0) ?_ f0).trans ?_
  · show (i 1).val / 256 = t.val / 17
    omega
  · exact congrArg (proj m c _ (i 0)) (Fin.ext (show 768 + (x 1).val = 768 + (i 1).val % 256 by omega))

/-- The array of the queries once the grid is done. -/
theorem final13 : (dats m 0 c).arrAt 13 cfg0.N = queries m c := by
  refine (dats m 0 c).arrAt_eq_of_covers 13 _ (by decide +kernel) fun t hf y => ?_
  have f0 : (((View.whole main_v49_3).slice (win0_13.rect t)).emb y 0).val = t.val / 17 := by blk_simp [idx t]
  have f1 : (((View.whole main_v49_3).slice (win0_13.rect t)).emb y 1).val = t.val % 17 * 256 + (y 1).val := by blk_simp [idx t]
  have f2 : (((View.whole main_v49_3).slice (win0_13.rect t)).emb y 2).val = (y 2).val := by blk_simp [idx t]
  blk_simp
  rw [after0_13]; unfold out0_13
  canon_tiles x h
  case piece0 => exact queries_tile m c t x _ f0 (f1.trans (congrArg _ h1)) (f2.trans h2)

/-- The array of the rotated queries once the grid is done. -/
theorem final14 : (dats m 0 c).arrAt 14 cfg0.N = queriesR m c := by
  refine (dats m 0 c).arrAt_eq_of_covers 14 _ (by decide +kernel) fun t hf y => ?_
  have f0 : (((View.whole main_v49_4).slice (win0_14.rect t)).emb y 0).val = t.val / 17 := by blk_simp [idx t]
  have f1 : (((View.whole main_v49_4).slice (win0_14.rect t)).emb y 1).val = t.val % 17 * 256 + (y 1).val := by blk_simp [idx t]
  have f2 : (((View.whole main_v49_4).slice (win0_14.rect t)).emb y 2).val = (y 2).val := by blk_simp [idx t]
  blk_simp
  rw [after0_14]; unfold out0_14
  canon_tiles x h
  case piece0 => exact queriesR_tile m c t x _ f0 (f1.trans (congrArg _ h1)) (f2.trans h2)

/-- The array of the rotated keys once the grid is done. -/
theorem final15 : (dats m 0 c).arrAt 15 cfg0.N = keysR m c := by
  refine (dats m 0 c).arrAt_eq_of_covers 15 _ (by decide +kernel) fun t hf y => ?_
  have f0 : (((View.whole main_v49_5).slice (win0_15.rect t)).emb y 0).val = t.val / 17 := by blk_simp [idx t]
  have f1 : (((View.whole main_v49_5).slice (win0_15.rect t)).emb y 1).val = t.val % 17 * 256 + (y 1).val := by blk_simp [idx t]
  have f2 : (((View.whole main_v49_5).slice (win0_15.rect t)).emb y 2).val = (y 2).val := by blk_simp [idx t]
  blk_simp
  rw [after0_15]; unfold out0_15
  canon_tiles x h
  case piece0 => exact keysR_tile m c t x _ f0 (f1.trans (congrArg _ h1)) (f2.trans h2)

/-- The array of the values once the grid is done. -/
theorem final16 : (dats m 0 c).arrAt 16 cfg0.N = values m c := by
  refine (dats m 0 c).arrAt_eq_of_covers 16 _ (by decide +kernel) fun t hf y => ?_
  have f0 : (((View.whole main_v49_6).slice (win0_16.rect t)).emb y 0).val = t.val / 17 := by blk_simp [idx t]
  have f1 : (((View.whole main_v49_6).slice (win0_16.rect t)).emb y 1).val = t.val % 17 * 256 + (y 1).val := by blk_simp [idx t]
  have f2 : (((View.whole main_v49_6).slice (win0_16.rect t)).emb y 2).val = (y 2).val := by blk_simp [idx t]
  blk_simp
  rw [after0_16]; unfold out0_16
  canon_tiles x h
  case piece0 => exact values_tile m c t x _ f0 (f1.trans (congrArg _ h1)) (f2.trans h2)

/-- The array of the third branch's channels once the grid is done. -/
theorem final12 : (dats m 0 c).arrAt 12 cfg0.N = channels m c := by
  refine (dats m 0 c).arrAt_eq_of_covers 12 _ (by decide +kernel) fun t hf y => ?_
  have f0 : (((View.whole main_v49_2).slice (win0_12.rect t)).emb y 0).val = t.val % 17 * 256 + (y 0).val := by blk_simp [idx t]
  have f1 : (((View.whole main_v49_2).slice (win0_12.rect t)).emb y 1).val = t.val / 17 * 256 + (y 1).val := by blk_simp [idx t]
  blk_simp
  rw [after0_12]; unfold out0_12
  canon_tiles x h
  case piece0 => exact channels_tile m c t x _ (f0.trans (congrArg _ h0)) (f1.trans (congrArg _ h1))

end Cert.Proj

end
-- ==== Proof.ProjConv.lean ====
/- What the two arrays of the short convolution hold once the grid is done. -/
module

public import proofs.«01_k».proof.Proof.ProjConvTile
public import proofs.«01_k».proof.Proof.ProjArray

@[expose] public section

set_option maxRecDepth 16384

noncomputable section

namespace Cert.Proj

open Cert.Kernel2Ideal Cert.Kernel2Ideal.Gen Idealize.ShloMosaic Idealize.ShloMosaic.TcCoe Idealize.SL.Sem

/-- The block indices of the halos, of the convolution's weights and of its results. -/
theorem convIdx : ∀ t : Fin cfg0.N, win0_1.index t = ![t.val / 17, 32 * (t.val % 17) - 1, 0]
    ∧ win0_2.index t = ![t.val / 17, min (32 * (t.val % 17) + 32) 543, 0]
    ∧ win0_6.index t = ![0, 0] ∧ win0_7.index t = ![0, 0]
    ∧ win0_10.index t = ![t.val / 17, t.val % 17, 0] ∧ win0_11.index t = ![t.val / 17, t.val % 17, 0] :=
  (by decide +kernel : ∀ t : Fin grid0.N, _)

/-- Whether a tile has a token before it in its own sequence. -/
def hasBefore (t : Fin cfg0.N) : BitVec 1 := Scalar.andi (Scalar.cmpi .ne (BitVec.ofNat 32 (grid0.coords t 1).val) 0#32)
  (Scalar.xori (Scalar.cmpi .eq (BitVec.ofNat 32 (grid0.coords t 1).val) 16#32) 1#1)

/-- Whether a tile has a token after it in its own sequence. -/
def hasAfter (t : Fin cfg0.N) : BitVec 1 := Scalar.andi (Scalar.cmpi .ne (BitVec.ofNat 32 (grid0.coords t 1).val) 15#32)
  (Scalar.xori (Scalar.cmpi .eq (BitVec.ofNat 32 (grid0.coords t 1).val) 16#32) 1#1)

/-- A tile has a token before it unless it is the latents' first or the context's. -/
theorem hasBefore_iff : ∀ t : Fin cfg0.N, hasBefore t = 1#1 ↔ ¬ (t.val % 17 = 0 ∨ t.val % 17 = 16) :=
  (by decide +kernel : ∀ t : Fin grid0.N, _)

/-- A tile has a token after it unless it is the latents' last or the context's. -/
theorem hasAfter_iff : ∀ t : Fin cfg0.N, hasAfter t = 1#1 ↔ ¬ (t.val % 17 = 15 ∨ t.val % 17 = 16) :=
  (by decide +kernel : ∀ t : Fin grid0.N, _)

variable (m : (ℓ : Loc nD τ sig) → Buf (Elt Ideal) ℓ) (c : Dev nD)

/-- The bias as the call reads it. -/
theorem bias_at (l : Fin 768) : (V m c main_v48 (ix2 0 l) : EReal) = m (c, Proc.tc.devRef main_arg7) (ix1 l) := by
  unfold V
  after_reads_simp
  all_goals try simp -implicitDefEqProofs only [StableHlo.TRef.toBuf, StableHlo.TRef.ofBuf, cast_cast, cast_eq]
  clean_types
  pointwise

/-- The block of the eight tokens before the tile. -/
theorem before_blk (t : Fin cfg0.N) (j : S1x8x1024.Idx) (i : S8x4352x1024.Idx) (h0 : (i 0).val = t.val / 17)
    (h1 : (i 1).val = (32 * (t.val % 17) - 1) * 8 + (j 1).val) (h2 : (i 2).val = (j 2).val) : iblk m c 1 t j = V m c main_v45 i := by
  blk_ext [iblk, convIdx t]

/-- The block of the eight tokens after the tile. -/
theorem after_blk (t : Fin cfg0.N) (j : S1x8x1024.Idx) (i : S8x4352x1024.Idx) (h0 : (i 0).val = t.val / 17)
    (h1 : (i 1).val = min (32 * (t.val % 17) + 32) 543 * 8 + (j 1).val) (h2 : (i 2).val = (j 2).val) :
    iblk m c 2 t j = V m c main_v45 i := by
  blk_ext [iblk, convIdx t]

/-- The block of the convolution's weights. -/
theorem taps_blk (t : Fin cfg0.N) (j i : S3x768.Idx) (h0 : (i 0).val = (j 0).val) (h1 : (i 1).val = (j 1).val) :
    iblk m c 6 t j = V m c main_arg6 i := by
  blk_ext [iblk, convIdx t]

/-- The block of the bias. -/
theorem bias_blk (t : Fin cfg0.N) (j i : S1x768.Idx) (h1 : (i 1).val = (j 1).val) : iblk m c 7 t j = V m c main_v48 i := by
  blk_ext [iblk, convIdx t]

/-- The row before the tile is the projection of the token before it. -/
theorem tileP_before (t : Fin cfg0.N) (n : Fin 2560) (b : Fin 8) (q : Fin 4352) (hb : b.val = t.val / 17)
    (h0 : ¬ (t.val % 17 = 0 ∨ t.val % 17 = 16)) (hq : q.val + 1 = t.val % 17 * 256) : (tileP m c t (ix2 263 n) : EReal) = proj m c b q n := by
  unfold tileP k0_pay31 k0_pay25 k0_pay26 k0_pay27 k0_pay29 k0_pay30
  refine (before_at _ _ _ _ _ _ _ n).trans (column_tile m c t n b q (by omega) (fun e => View.ld (iblk m c 1 t) r0_4 (ix3 0 7 e)) fun e =>
    before_blk m c t _ _ hb ?_ ((unit_val _ _ _ _ 2).trans (Nat.zero_add _)).symm)
  refine Eq.trans ?_ (congrArg _ ((unit_val _ _ _ _ 1).trans (Nat.zero_add _)).symm)
  show q.val = (32 * (t.val % 17) - 1) * 8 + 7
  omega

/-- The row after the tile is the projection of the token after it. -/
theorem tileP_after (t : Fin cfg0.N) (n : Fin 2560) (b : Fin 8) (q : Fin 4352) (hb : b.val = t.val / 17)
    (h0 : ¬ (t.val % 17 = 15 ∨ t.val % 17 = 16)) (hq : q.val = t.val % 17 * 256 + 256) : (tileP m c t (ix2 264 n) : EReal) = proj m c b q n := by
  have hlt : t.val % 17 < 17 := Nat.mod_lt _ (by decide)
  unfold tileP k0_pay31 k0_pay25 k0_pay26 k0_pay27 k0_pay29 k0_pay30
  refine (after_at _ _ _ _ _ _ _ n).trans (column_tile m c t n b q (by omega) (fun e => View.ld (iblk m c 2 t) r0_4 (ix3 0 0 e)) fun e =>
    after_blk m c t _ _ hb ?_ ((unit_val _ _ _ _ 2).trans (Nat.zero_add _)).symm)
  refine Eq.trans ?_ (congrArg _ ((unit_val _ _ _ _ 1).trans (Nat.zero_add _)).symm)
  show q.val = min (32 * (t.val % 17) + 32) 543 * 8 + 0
  omega

/-- A column of the projection convolved. -/
def convd (b : Fin 8) (q : Fin 4352) (k : Fin 768) : EReal :=
  convolved (fun q => proj m c b q ⟨k.val, by omega⟩) q (m (c, Proc.tc.devRef main_arg6) (ix2 0 k)) (m (c, Proc.tc.devRef main_arg6) (ix2 1 k))
    (m (c, Proc.tc.devRef main_arg6) (ix2 2 k)) (m (c, Proc.tc.devRef main_arg7) (ix1 k))

/-- The convolved columns of the tile at a point of the grid. -/
def tileU (t : Fin cfg0.N) : FVec Ideal S256x768 .f32 :=
  k0_pay12 (tileP m c t) (k0_pay32 (grid0.coords t) (iblk m c 0 t) (iblk m c 1 t) (iblk m c 2 t) (iblk m c 3 t) (iblk m c 4 t) (iblk m c 5 t)
    (iblk m c 6 t) (iblk m c 7 t) (iblk m c 8 t) (iblk m c 9 t)) (hasBefore t) (hasAfter t) (k0_pay33 (grid0.coords t) (iblk m c 0 t)
    (iblk m c 1 t) (iblk m c 2 t) (iblk m c 3 t) (iblk m c 4 t) (iblk m c 5 t) (iblk m c 6 t) (iblk m c 7 t) (iblk m c 8 t) (iblk m c 9 t))
    (Scalar.ofBits .f32 0x00000000#32) (View.ld (iblk m c 6 t) r0_6) (View.ld (iblk m c 6 t) r0_7) (View.ld (iblk m c 6 t) r0_8)
    (View.ld (iblk m c 7 t) r0_9)

/-- The parts of a convolution, each by its own equation. -/
theorem conv_congr {u u' v v' w w' a a' b b' c c' d d' : EReal} (hu : u = u') (hv : v = v') (hw : w = w') (ha : a = a') (hb : b = b')
    (hc : c = c') (hd : d = d') : conv u v w a b c d = conv u' v' w' a' b' c' d' := by
  subst hu hv hw ha hb hc hd; rfl

/-- The tile's convolved columns at an index. -/
theorem tileU_at (t : Fin cfg0.N) (r : Fin 256) (k : Fin 768) (b : Fin 8) (q : Fin 4352) (hb : b.val = t.val / 17)
    (hq : q.val = t.val % 17 * 256 + r.val) : (tileU m c t (ix2 r k) : EReal) = convd m c b q k := by
  have hr := r.isLt
  have hlt : t.val % 17 < 17 := Nat.mod_lt _ (by decide)
  have row : ∀ (r' : Fin 256) (q' : Fin 4352), q'.val = t.val % 17 * 256 + r'.val →
      (k0_pay32 (grid0.coords t) (iblk m c 0 t) (iblk m c 1 t) (iblk m c 2 t) (iblk m c 3 t) (iblk m c 4 t) (iblk m c 5 t)
        (iblk m c 6 t) (iblk m c 7 t) (iblk m c 8 t) (iblk m c 9 t) (ix2 r' k) : EReal) = proj m c b q' ⟨k.val, by omega⟩ := fun r' q' h => by
    unfold k0_pay32
    exact (rows_at _ _ _ _ _ _ _ _ k r').trans (tileP_at m c t r' _ b q' hb h)
  unfold tileU
  refine (conv_at _ _ _ _ _ _ _ _ _ r k).trans ?_
  unfold convd convolved
  refine conv_congr ?_ (row r q hq) ?_ ?_ ?_ ?_ ?_
  · by_cases h : r.val = 0
    · rw [if_pos h]
      by_cases h' : t.val % 17 = 0 ∨ t.val % 17 = 16
      · rw [if_neg (fun e => (hasBefore_iff t).mp e h'), if_pos (show q.val = 0 ∨ q.val = 4096 by omega)]
      · rw [if_pos ((hasBefore_iff t).mpr h'), if_neg (show ¬ (q.val = 0 ∨ q.val = 4096) by omega)]
        unfold k0_pay33
        exact (beforeRow_at _ _ _ _ _ _ _ _ k).trans (tileP_before m c t _ b _ hb h' (show q.val - 1 + 1 = _ by omega))
    · rw [if_neg h, if_neg (show ¬ (q.val = 0 ∨ q.val = 4096) by omega)]
      exact row _ _ (show q.val - 1 = t.val % 17 * 256 + (r.val - 1) by omega)
  · by_cases h : r.val < 255
    · rw [dif_pos h, dif_neg (show ¬ (q.val = 4095 ∨ q.val = 4351) by omega)]
      exact row _ _ (show q.val + 1 = t.val % 17 * 256 + (r.val + 1) by omega)
    · rw [dif_neg h]
      by_cases h' : t.val % 17 = 15 ∨ t.val % 17 = 16
      · rw [if_neg (fun e => (hasAfter_iff t).mp e h'), dif_pos (show q.val = 4095 ∨ q.val = 4351 by omega)]
      · rw [if_pos ((hasAfter_iff t).mpr h'), dif_neg (show ¬ (q.val = 4095 ∨ q.val = 4351) by omega)]
        exact tileP_after m c t _ b _ hb h' (show q.val + 1 = _ by omega)
  · exact (taps_blk m c t _ (ix2 0 k) (unit_val (s := S3x768) ![0, 0] S1x768.size inb_S3x768_S1x768_0_0 (ix2 0 k) 0).symm
      ((unit_val (s := S3x768) ![0, 0] S1x768.size inb_S3x768_S1x768_0_0 (ix2 0 k) 1).trans (Nat.zero_add _)).symm).trans
      (congrFun (V_main_arg6 m c) _)
  · exact (taps_blk m c t _ (ix2 1 k) (unit_val (s := S3x768) ![1, 0] S1x768.size inb_S3x768_S1x768_1_0 (ix2 0 k) 0).symm
      ((unit_val (s := S3x768) ![1, 0] S1x768.size inb_S3x768_S1x768_1_0 (ix2 0 k) 1).trans (Nat.zero_add _)).symm).trans
      (congrFun (V_main_arg6 m c) _)
  · exact (taps_blk m c t _ (ix2 2 k) (unit_val (s := S3x768) ![2, 0] S1x768.size inb_S3x768_S1x768_2_0 (ix2 0 k) 0).symm
      ((unit_val (s := S3x768) ![2, 0] S1x768.size inb_S3x768_S1x768_2_0 (ix2 0 k) 1).trans (Nat.zero_add _)).symm).trans
      (congrFun (V_main_arg6 m c) _)
  · exact (bias_blk m c t _ (ix2 0 k) ((unit_val _ _ _ _ 1).trans (Nat.zero_add _)).symm).trans (bias_at m c k)

/-- The first third of the convolved columns, as a function of the index. -/
def gates : S8x4352x256.Idx → EReal := fun y =>
  convd m c (y 0) (y 1) ⟨(y 2).val, by have : (y 2).val < 256 := (y 2).isLt; omega⟩

/-- The product of the other two thirds, as a function of the index. -/
def products : S8x4352x256.Idx → EReal := fun y =>
  convd m c (y 0) (y 1) ⟨256 + (y 2).val, by have : (y 2).val < 256 := (y 2).isLt; omega⟩
    * convd m c (y 0) (y 1) ⟨512 + (y 2).val, by have : (y 2).val < 256 := (y 2).isLt; omega⟩

/-- An index of a block with one row of batches, spelt out. -/
theorem convIdx_eq (x : S1x256x256.Idx) : x = ix3 0 (x 1) (x 2) := by
  funext a; match a with
  | ⟨0, _⟩ => exact Fin.ext (by have := (x 0).isLt; show (x 0).val = 0; change (x 0).val < 1 at this; omega)
  | ⟨1, _⟩ => rfl
  | ⟨2, _⟩ => rfl

section
variable (t : Fin cfg0.N) (x : S1x256x256.Idx) (i : S8x4352x256.Idx) (f0 : (i 0).val = t.val / 17)
  (f1 : (i 1).val = t.val % 17 * 256 + (x 1).val) (f2 : (i 2).val = (x 2).val)

include f0 f1 f2 in
/-- A tile's convolved columns are the array's, by their first. -/
theorem convd_tile (o : ℕ) (ho : o ≤ 512) (hx : o + (x 2).val < 768) (hi : o + (i 2).val < 768) :
    (tileU m c t (ix2 (x 1) ⟨o + (x 2).val, hx⟩) : EReal) = convd m c (i 0) (i 1) ⟨o + (i 2).val, hi⟩ :=
  (tileU_at m c t (x 1) _ (i 0) (i 1) f0 f1).trans (congrArg (convd m c (i 0) (i 1)) (Fin.ext (congrArg (o + ·) f2.symm)))
end

/-- The array of the convolution's first third once the grid is done. -/
theorem final10 : (dats m 0 c).arrAt 10 cfg0.N = gates m c := by
  refine (dats m 0 c).arrAt_eq_of_covers 10 _ (by decide +kernel) fun t hf y => ?_
  have f0 : (((View.whole main_v49_0).slice (win0_10.rect t)).emb y 0).val = t.val / 17 := by blk_simp [convIdx t]
  have f1 : (((View.whole main_v49_0).slice (win0_10.rect t)).emb y 1).val = t.val % 17 * 256 + (y 1).val := by blk_simp [convIdx t]
  have f2 : (((View.whole main_v49_0).slice (win0_10.rect t)).emb y 2).val = (y 2).val := by blk_simp [convIdx t]
  blk_simp
  rw [after0_10]; unfold out0_10
  canon_tiles x h
  case piece0 =>
    have x2 : (x 2).val < 256 := (x 2).isLt
    refine (congrArg _ (convIdx_eq x)).trans ((first_at _ _ _ _ _ _ _ _ _ (x 1) (x 2)).trans ?_)
    exact (tileU_at m c t (x 1) ⟨(x 2).val, by omega⟩ _ _ f0 (f1.trans (congrArg _ h1))).trans
      (congrArg (convd m c _ _) (Fin.ext (f2.trans h2).symm))

/-- The array of the product of the other two thirds once the grid is done. -/
theorem final11 : (dats m 0 c).arrAt 11 cfg0.N = products m c := by
  refine (dats m 0 c).arrAt_eq_of_covers 11 _ (by decide +kernel) fun t hf y => ?_
  have f0 : (((View.whole main_v49_1).slice (win0_11.rect t)).emb y 0).val = t.val / 17 := by blk_simp [convIdx t]
  have f1 : (((View.whole main_v49_1).slice (win0_11.rect t)).emb y 1).val = t.val % 17 * 256 + (y 1).val := by blk_simp [convIdx t]
  have f2 : (((View.whole main_v49_1).slice (win0_11.rect t)).emb y 2).val = (y 2).val := by blk_simp [convIdx t]
  blk_simp
  rw [after0_11]; unfold out0_11
  canon_tiles x h
  case piece0 =>
    have x2 : (x 2).val < 256 := (x 2).isLt
    refine (congrArg _ (convIdx_eq x)).trans ((rest_at _ _ _ _ _ _ _ _ _ (x 1) (x 2)).trans ?_)
    exact congrArg₂ (fun a b : EReal => a * b)
      (convd_tile m c t x _ f0 (f1.trans (congrArg _ h1)) (f2.trans h2) 256 (by decide) _ _)
      (convd_tile m c t x _ f0 (f1.trans (congrArg _ h1)) (f2.trans h2) 512 (by decide) _ _)

end Cert.Proj

end
-- ==== Proof.ProjConvRef.lean ====
/- What the reference's short convolution computes at an index. -/
module

public import proofs.«01_k».proof.Proof.ProjRef
public import proofs.«01_k».proof.Proof.ProjConv

@[expose] public section

set_option maxRecDepth 16384

noncomputable section

namespace Cert.Proj.Ref

open Cert.Reference2Ideal Cert.Reference2Ideal.Gen Cert.Reference2Ideal.Value Idealize.ShloMosaic Idealize.ShloMosaic.TcCoe Idealize.SL.Sem Idealize.ShloMosaic.StableHlo

/-- The number that the reference pads with is zero. -/
theorem zero_eq : (FloatOps.sitofp (F := Ideal) FTy.f32 0#32 : EReal) = 0 := by
  show (((0#32 : BitVec 32).toInt : ℝ) : EReal) = 0
  simp

/-- The latents' columns with a zero before and after, as the reference spells it. -/
def latPadded (p : FVec Ideal S8x4096x2560 .f32) : FVec Ideal S8x4098x768 .f32 :=
  pad S8x4098x768 ![0, 1, 0] ![0, 1, 0] ![0, 0, 0] (extractStridedSlice S8x4096x768 ![0, 0, 0] p slices_S8x4096x2560_S8x4096x768_0_0_0)
    (sitofp .f32 (constantI S_ 32 0#32)) pads_S8x4096x768_S8x4098x768_000_110_000 h_S_

/-- Those columns at an index. -/
theorem latPadded_at (p : FVec Ideal S8x4096x2560 .f32) (b : Fin 8) (q : Fin 4098) (l : Fin 768) : (latPadded p (ix3 b q l) : EReal)
    = if h : 1 ≤ q.val ∧ q.val ≤ 4096 then p (ix3 b ⟨q.val - 1, by omega⟩ ⟨l.val, by omega⟩) else 0 := by
  pointwise [latPadded]
  by_cases h : 1 ≤ q.val ∧ q.val ≤ 4096
  · refine (dif_pos (⟨h.1, by omega⟩ : 1 ≤ q.val ∧ q.val - 1 < 4096)).trans (Eq.symm ?_)
    exact dif_pos h
  · refine (dif_neg (show ¬ (1 ≤ q.val ∧ q.val - 1 < 4096) by omega)).trans (zero_eq.trans (Eq.symm ?_))
    exact dif_neg h

/-- The latents' convolution, as the reference spells it. -/
def latConv (p : FVec Ideal S8x4096x2560 .f32) (w : FVec Ideal S3x768 .f32) (d : FVec Ideal S768 .f32) : FVec Ideal S8x4096x768 .f32 :=
  addf (addf (addf (mulf (extractStridedSlice S8x4096x768 ![0, 0, 0] (latPadded p) slices_S8x4098x768_S8x4096x768_0_0_0) (broadcastInDim
    S8x4096x768 ![0, 1, 2] bcast_S1x1x768_S8x4096x768_0_1_2 (broadcastInDim S1x1x768 ![2] bcast_S768_S1x1x768_2 (shapeCast S768
    (extractStridedSlice S1x768 ![0, 0] w slices_S3x768_S1x768_0_0) shapeCasts_S1x768_S768)))) (mulf (extractStridedSlice S8x4096x768
    ![0, 1, 0] (latPadded p) slices_S8x4098x768_S8x4096x768_0_1_0) (broadcastInDim S8x4096x768 ![0, 1, 2]
    bcast_S1x1x768_S8x4096x768_0_1_2 (broadcastInDim S1x1x768 ![2] bcast_S768_S1x1x768_2 (shapeCast S768 (extractStridedSlice S1x768
    ![1, 0] w slices_S3x768_S1x768_1_0) shapeCasts_S1x768_S768))))) (mulf (extractStridedSlice S8x4096x768 ![0, 2, 0] (latPadded p)
    slices_S8x4098x768_S8x4096x768_0_2_0) (broadcastInDim S8x4096x768 ![0, 1, 2] bcast_S1x1x768_S8x4096x768_0_1_2 (broadcastInDim
    S1x1x768 ![2] bcast_S768_S1x1x768_2 (shapeCast S768 (extractStridedSlice S1x768 ![2, 0] w slices_S3x768_S1x768_2_0)
    shapeCasts_S1x768_S768))))) (broadcastInDim S8x4096x768 ![0, 1, 2] bcast_S1x1x768_S8x4096x768_0_1_2 (broadcastInDim S1x1x768 ![2]
    bcast_S768_S1x1x768_2 d))

/-- That convolution at an index. -/
theorem latConv_at (p : FVec Ideal S8x4096x2560 .f32) (w : FVec Ideal S3x768 .f32) (d : FVec Ideal S768 .f32) (b : Fin 8) (q : Fin 4096)
    (l : Fin 768) : (latConv p w d (ix3 b q l) : EReal)
    = conv (if q.val = 0 then 0 else p (ix3 b ⟨q.val - 1, by omega⟩ ⟨l.val, by omega⟩)) (p (ix3 b q ⟨l.val, by omega⟩))
        (if h : q.val < 4095 then p (ix3 b ⟨q.val + 1, by omega⟩ ⟨l.val, by omega⟩) else 0) (w (ix2 0 l)) (w (ix2 1 l)) (w (ix2 2 l))
        (d (ix1 l)) := by
  pointwise [latConv, latPadded_at]
  have hq := q.isLt
  refine conv_congr ?_ (dif_pos (show 1 + q.val ≤ 4096 by omega)) ?_ rfl rfl rfl rfl
  · by_cases h : q.val = 0
    · exact (dif_neg (show ¬ (1 ≤ q.val ∧ q.val ≤ 4096) by omega)).trans (if_pos h).symm
    · exact (dif_pos (show 1 ≤ q.val ∧ q.val ≤ 4096 by omega)).trans (if_neg h).symm
  · by_cases h : q.val < 4095
    · refine (dif_pos (show 1 ≤ 2 + q.val ∧ 2 + q.val ≤ 4096 by omega)).trans (Eq.trans ?_ (dif_pos h).symm)
      exact congrArg (fun i : Fin 4096 => (p (ix3 b i ⟨l.val, by omega⟩) : EReal)) (Fin.ext (show 2 + q.val - 1 = q.val + 1 by omega))
    · refine (dif_neg (show ¬ (1 ≤ 2 + q.val ∧ 2 + q.val ≤ 4096) by omega)).trans (Eq.symm ?_)
      exact dif_neg h

/-- The context's columns with a zero before and after, as the reference spells it. -/
def ctxPadded (p : FVec Ideal S8x256x2560 .f32) : FVec Ideal S8x258x768 .f32 :=
  pad S8x258x768 ![0, 1, 0] ![0, 1, 0] ![0, 0, 0] (extractStridedSlice S8x256x768 ![0, 0, 0] p slices_S8x256x2560_S8x256x768_0_0_0)
    (sitofp .f32 (constantI S_ 32 0#32)) pads_S8x256x768_S8x258x768_000_110_000 h_S_

/-- Those columns at an index. -/
theorem ctxPadded_at (p : FVec Ideal S8x256x2560 .f32) (b : Fin 8) (q : Fin 258) (l : Fin 768) : (ctxPadded p (ix3 b q l) : EReal)
    = if h : 1 ≤ q.val ∧ q.val ≤ 256 then p (ix3 b ⟨q.val - 1, by omega⟩ ⟨l.val, by omega⟩) else 0 := by
  pointwise [ctxPadded]
  by_cases h : 1 ≤ q.val ∧ q.val ≤ 256
  · refine (dif_pos (⟨h.1, by omega⟩ : 1 ≤ q.val ∧ q.val - 1 < 256)).trans (Eq.symm ?_)
    exact dif_pos h
  · refine (dif_neg (show ¬ (1 ≤ q.val ∧ q.val - 1 < 256) by omega)).trans (zero_eq.trans (Eq.symm ?_))
    exact dif_neg h

/-- The context's convolution, as the reference spells it. -/
def ctxConv (p : FVec Ideal S8x256x2560 .f32) (w : FVec Ideal S3x768 .f32) (d : FVec Ideal S768 .f32) : FVec Ideal S8x256x768 .f32 :=
  addf (addf (addf (mulf (extractStridedSlice S8x256x768 ![0, 0, 0] (ctxPadded p) slices_S8x258x768_S8x256x768_0_0_0) (broadcastInDim
    S8x256x768 ![0, 1, 2] bcast_S1x1x768_S8x256x768_0_1_2 (broadcastInDim S1x1x768 ![2] bcast_S768_S1x1x768_2 (shapeCast S768
    (extractStridedSlice S1x768 ![0, 0] w slices_S3x768_S1x768_0_0) shapeCasts_S1x768_S768)))) (mulf (extractStridedSlice S8x256x768
    ![0, 1, 0] (ctxPadded p) slices_S8x258x768_S8x256x768_0_1_0) (broadcastInDim S8x256x768 ![0, 1, 2] bcast_S1x1x768_S8x256x768_0_1_2
    (broadcastInDim S1x1x768 ![2] bcast_S768_S1x1x768_2 (shapeCast S768 (extractStridedSlice S1x768 ![1, 0] w slices_S3x768_S1x768_1_0)
    shapeCasts_S1x768_S768))))) (mulf (extractStridedSlice S8x256x768 ![0, 2, 0] (ctxPadded p) slices_S8x258x768_S8x256x768_0_2_0)
    (broadcastInDim S8x256x768 ![0, 1, 2] bcast_S1x1x768_S8x256x768_0_1_2 (broadcastInDim S1x1x768 ![2] bcast_S768_S1x1x768_2 (shapeCast
    S768 (extractStridedSlice S1x768 ![2, 0] w slices_S3x768_S1x768_2_0) shapeCasts_S1x768_S768))))) (broadcastInDim S8x256x768 ![0, 1,
    2] bcast_S1x1x768_S8x256x768_0_1_2 (broadcastInDim S1x1x768 ![2] bcast_S768_S1x1x768_2 d))

/-- That convolution at an index. -/
theorem ctxConv_at (p : FVec Ideal S8x256x2560 .f32) (w : FVec Ideal S3x768 .f32) (d : FVec Ideal S768 .f32) (b : Fin 8) (q : Fin 256)
    (l : Fin 768) : (ctxConv p w d (ix3 b q l) : EReal)
    = conv (if q.val = 0 then 0 else p (ix3 b ⟨q.val - 1, by omega⟩ ⟨l.val, by omega⟩)) (p (ix3 b q ⟨l.val, by omega⟩))
        (if h : q.val < 255 then p (ix3 b ⟨q.val + 1, by omega⟩ ⟨l.val, by omega⟩) else 0) (w (ix2 0 l)) (w (ix2 1 l)) (w (ix2 2 l))
        (d (ix1 l)) := by
  pointwise [ctxConv, ctxPadded_at]
  have hq := q.isLt
  refine conv_congr ?_ (dif_pos (show 1 + q.val ≤ 256 by omega)) ?_ rfl rfl rfl rfl
  · by_cases h : q.val = 0
    · exact (dif_neg (show ¬ (1 ≤ q.val ∧ q.val ≤ 256) by omega)).trans (if_pos h).symm
    · exact (dif_pos (show 1 ≤ q.val ∧ q.val ≤ 256 by omega)).trans (if_neg h).symm
  · by_cases h : q.val < 255
    · refine (dif_pos (show 1 ≤ 2 + q.val ∧ 2 + q.val ≤ 256 by omega)).trans (Eq.trans ?_ (dif_pos h).symm)
      exact congrArg (fun i : Fin 256 => (p (ix3 b i ⟨l.val, by omega⟩) : EReal)) (Fin.ext (show 2 + q.val - 1 = q.val + 1 by omega))
    · refine (dif_neg (show ¬ (1 ≤ 2 + q.val ∧ 2 + q.val ≤ 256) by omega)).trans (Eq.symm ?_)
      exact dif_neg h

/-- Two arrays of 256 columns, the latents' rows and the context's after them, as the reference spells it. -/
def rows256 (t : FVec Ideal S8x4096x256 .f32) (u : FVec Ideal S8x256x256 .f32) : FVec Ideal S8x4352x256 .f32 :=
  concatenate S8x4352x256 1 [⟨S8x4096x256, t⟩, ⟨S8x256x256, u⟩] concatenates_S8x4096x256_S8x256x256_S8x4352x256_d1

/-- Those rows at an index. -/
theorem rows256_at (t : FVec Ideal S8x4096x256 .f32) (u : FVec Ideal S8x256x256 .f32) (b : Fin 8) (q : Fin 4352) (l : Fin 256) :
    (rows256 t u (ix3 b q l) : EReal)
      = if h : q.val < 4096 then t (ix3 b ⟨q.val, h⟩ l) else u (ix3 b ⟨q.val - 4096, by omega⟩ l) := by
  pointwise [rows256]

section
variable (p : FVec Ideal S8x4096x768 .f32) (r : FVec Ideal S8x256x768 .f32)

/-- The first third of the two convolutions, as the reference spells it. -/
def gateRows : FVec Ideal S8x4352x256 .bf16 :=
  truncf .bf16 (rows256 (extractStridedSlice S8x4096x256 ![0, 0, 0] p slices_S8x4096x768_S8x4096x256_0_0_0)
    (extractStridedSlice S8x256x256 ![0, 0, 0] r slices_S8x256x768_S8x256x256_0_0_0)) bitsLt_bf16_f32

/-- That third at an index. -/
theorem gateRows_at (b : Fin 8) (q : Fin 4352) (l : Fin 256) : (gateRows p r (ix3 b q l) : EReal)
    = if h : q.val < 4096 then p (ix3 b ⟨q.val, h⟩ ⟨l.val, by omega⟩) else r (ix3 b ⟨q.val - 4096, by omega⟩ ⟨l.val, by omega⟩) := by
  pointwise [gateRows, rows256_at]

/-- The product of the other two thirds, as the reference spells it. -/
def productRows : FVec Ideal S8x4352x256 .f32 :=
  rows256 (mulf (extractStridedSlice S8x4096x256 ![0, 0, 256] p slices_S8x4096x768_S8x4096x256_0_0_256)
      (extractStridedSlice S8x4096x256 ![0, 0, 512] p slices_S8x4096x768_S8x4096x256_0_0_512))
    (mulf (extractStridedSlice S8x256x256 ![0, 0, 256] r slices_S8x256x768_S8x256x256_0_0_256)
      (extractStridedSlice S8x256x256 ![0, 0, 512] r slices_S8x256x768_S8x256x256_0_0_512))

/-- That product at an index. -/
theorem productRows_at (b : Fin 8) (q : Fin 4352) (l : Fin 256) : (productRows p r (ix3 b q l) : EReal)
    = if h : q.val < 4096 then p (ix3 b ⟨q.val, h⟩ ⟨256 + l.val, by omega⟩) * p (ix3 b ⟨q.val, h⟩ ⟨512 + l.val, by omega⟩)
      else r (ix3 b ⟨q.val - 4096, by omega⟩ ⟨256 + l.val, by omega⟩) * r (ix3 b ⟨q.val - 4096, by omega⟩ ⟨512 + l.val, by omega⟩) := by
  pointwise [productRows, rows256_at]
end

end Cert.Proj.Ref

end
-- ==== Proof.ProjEqual.lean ====
/- The reference's input projection is the kernel's, element by element. -/
module

public import proofs.«01_k».proof.Proof.ProjConvRef

@[expose] public section

set_option maxRecDepth 16384

noncomputable section

namespace Cert.Proj.Ref

open Cert.Reference2Ideal Cert.Reference2Ideal.Gen Cert.Reference2Ideal.Value Idealize.ShloMosaic Idealize.ShloMosaic.TcCoe Idealize.SL.Sem Idealize.ShloMosaic.StableHlo

section
variable {o : ℕ} (b : Fin 8)

/-- Columns `o` on of the latents' projection, 512 of them. -/
theorem latCols_at (p : FVec Ideal S8x4096x2560 .f32) (h) (q : Fin 4096) (l : Fin 512) (hl : o + l.val < 2560) :
    extractStridedSlice S8x4096x512 ![0, 0, o] p h (ix3 b q l) = p (ix3 b q ⟨o + l.val, hl⟩) := by
  pointwise

/-- Columns `o` on of the context's projection, 512 of them. -/
theorem ctxCols_at (p : FVec Ideal S8x256x2560 .f32) (h) (q : Fin 256) (l : Fin 512) (hl : o + l.val < 2560) :
    extractStridedSlice S8x256x512 ![0, 0, o] p h (ix3 b q l) = p (ix3 b q ⟨o + l.val, hl⟩) := by
  pointwise

/-- Columns `o` on of the latents' projection, 256 of them. -/
theorem latChannels_at (p : FVec Ideal S8x4096x2560 .f32) (h) (q : Fin 4096) (l : Fin 256) (hl : o + l.val < 2560) :
    extractStridedSlice S8x4096x256 ![0, 0, o] p h (ix3 b q l) = p (ix3 b q ⟨o + l.val, hl⟩) := by
  pointwise

/-- Columns `o` on of the context's projection, 256 of them. -/
theorem ctxChannels_at (p : FVec Ideal S8x256x2560 .f32) (h) (q : Fin 256) (l : Fin 256) (hl : o + l.val < 2560) :
    extractStridedSlice S8x256x256 ![0, 0, o] p h (ix3 b q l) = p (ix3 b q ⟨o + l.val, hl⟩) := by
  pointwise
end

section
variable (m : (ℓ : Loc Cert.Kernel2Ideal.nD Cert.Kernel2Ideal.τ Cert.Kernel2Ideal.sig) → Buf (Elt Ideal) ℓ) (c : Dev Cert.Kernel2Ideal.nD)
  (x : FVec Ideal S8x4096x1024 .f32) (y : FVec Ideal S8x256x1024 .f32) (d : FVec Ideal S8x6144 .f32) (n : FVec Ideal S6144 .f32)
  (g : FVec Ideal S1024 .f32) (w : FVec Ideal S1024x2560 .f32)
  (e0 : x = m (c, Proc.tc.devRef Cert.Kernel2Ideal.main_arg0)) (e1 : y = m (c, Proc.tc.devRef Cert.Kernel2Ideal.main_arg1))
  (e2 : d = m (c, Proc.tc.devRef Cert.Kernel2Ideal.main_arg2)) (e3 : n = m (c, Proc.tc.devRef Cert.Kernel2Ideal.main_arg3))
  (e4 : g = m (c, Proc.tc.devRef Cert.Kernel2Ideal.main_arg4)) (e5 : w = m (c, Proc.tc.devRef Cert.Kernel2Ideal.main_arg5))

include e0 e1 e2 e3 e4 e5

/-- The two projections joined are the kernel's projection. -/
theorem joined_eq (b : Fin 8) (q : Fin 4352) (k : Fin 2560) :
    (if h : q.val < 4096 then latProj x d g w (ix3 b ⟨q.val, h⟩ k) else ctxProj y n g w (ix3 b ⟨q.val - 4096, by omega⟩ k) : EReal)
      = proj m c b q k := by
  subst e0 e1 e2 e3 e4 e5
  exact joined_at _ _ _ _ _ _ b q k

/-- Columns `o` on of the two projections joined. -/
theorem cols_eq {o : ℕ} (ho : o ≤ 2048) (h h') (b : Fin 8) (q : Fin 4352) (l : Fin 512) :
    (if hq : q.val < 4096 then extractStridedSlice S8x4096x512 ![0, 0, o] (latProj x d g w) h (ix3 b ⟨q.val, hq⟩ l)
      else extractStridedSlice S8x256x512 ![0, 0, o] (ctxProj y n g w) h' (ix3 b ⟨q.val - 4096, by omega⟩ l) : EReal)
      = proj m c b q ⟨o + l.val, by omega⟩ := by
  refine Eq.trans ?_ (joined_eq m c x y d n g w e0 e1 e2 e3 e4 e5 b q ⟨o + l.val, by omega⟩)
  by_cases hq : q.val < 4096
  · rw [dif_pos hq, dif_pos hq]; exact latCols_at b _ h _ l _
  · rw [dif_neg hq, dif_neg hq]; exact ctxCols_at b _ h' _ l _

/-- The queries or values, by their first column. -/
theorem plain_eq {o : ℕ} (ho : o ≤ 2048) (h h') (i : S8x4352x512.Idx) :
    (plainRows (extractStridedSlice S8x4096x512 ![0, 0, o] (latProj x d g w) h)
      (extractStridedSlice S8x256x512 ![0, 0, o] (ctxProj y n g w) h') i : EReal)
      = proj m c (i 0) (i 1) ⟨o + (i 2).val, by have : (i 2).val < 512 := (i 2).isLt; omega⟩ := by
  have hi : i = ix3 (i 0) (i 1) (i 2) := by funext a; match a with | ⟨0, _⟩ => rfl | ⟨1, _⟩ => rfl | ⟨2, _⟩ => rfl
  refine (congrArg _ hi).trans ((plainRows_at _ _ (i 0) (i 1) (i 2)).trans ?_)
  exact cols_eq m c x y d n g w e0 e1 e2 e3 e4 e5 ho h h' (i 0) (i 1) (i 2)

/-- The rotated queries or keys, by their first column. -/
theorem turned_eq {o : ℕ} (ho : o ≤ 2048) (h h') (i : S8x4352x512.Idx) :
    (turnedRows (extractStridedSlice S8x4096x512 ![0, 0, o] (latProj x d g w) h)
      (extractStridedSlice S8x256x512 ![0, 0, o] (ctxProj y n g w) h') i : EReal)
      = rotatedRow (fun l => proj m c (i 0) (i 1) ⟨o + l.val, by omega⟩) (i 1) (i 2) := by
  have hi : i = ix3 (i 0) (i 1) (i 2) := by funext a; match a with | ⟨0, _⟩ => rfl | ⟨1, _⟩ => rfl | ⟨2, _⟩ => rfl
  refine (congrArg _ hi).trans ((turnedRows_at _ _ (i 0) (i 1) (i 2)).trans ?_)
  exact congrArg (fun A : Fin 512 → EReal => rotatedRow A (i 1) (i 2))
    (funext fun l => cols_eq m c x y d n g w e0 e1 e2 e3 e4 e5 ho h h' (i 0) (i 1) l)

/-- A latent's column is the kernel's. -/
theorem lat_eq (b : Fin 8) (i : Fin 4096) (q : Fin 4352) (k : Fin 2560) (hq : q.val = i.val) :
    (latProj x d g w (ix3 b i k) : EReal) = proj m c b q k := by
  refine Eq.trans ?_ (joined_eq m c x y d n g w e0 e1 e2 e3 e4 e5 b q k)
  rw [dif_pos (show q.val < 4096 by omega)]
  exact congrArg (fun i : Fin 4096 => (latProj x d g w (ix3 b i k) : EReal)) (Fin.ext hq.symm)

/-- A column of a token of the context is the kernel's. -/
theorem ctx_eq (b : Fin 8) (i : Fin 256) (q : Fin 4352) (k : Fin 2560) (hq : q.val = 4096 + i.val) :
    (ctxProj y n g w (ix3 b i k) : EReal) = proj m c b q k := by
  refine Eq.trans ?_ (joined_eq m c x y d n g w e0 e1 e2 e3 e4 e5 b q k)
  rw [dif_neg (show ¬ q.val < 4096 by omega)]
  exact congrArg (fun i : Fin 256 => (ctxProj y n g w (ix3 b i k) : EReal)) (Fin.ext (show i.val = q.val - 4096 by omega))

section
variable (f : FVec Ideal S3x768 .f32) (z : FVec Ideal S768 .f32) (e6 : f = m (c, Proc.tc.devRef Cert.Kernel2Ideal.main_arg6))
  (e7 : z = m (c, Proc.tc.devRef Cert.Kernel2Ideal.main_arg7))

include e6 e7

/-- A latent's convolved column is the kernel's. -/
theorem latConv_eq (b : Fin 8) (q : Fin 4352) (hq : q.val < 4096) (k : Fin 768) :
    (latConv (latProj x d g w) f z (ix3 b ⟨q.val, hq⟩ k) : EReal) = convd m c b q k := by
  have L := lat_eq m c x y d n g w e0 e1 e2 e3 e4 e5
  refine (latConv_at _ f z b ⟨q.val, hq⟩ k).trans ?_
  subst e6 e7
  unfold convd convolved
  refine conv_congr ?_ (L b _ q _ rfl) ?_ rfl rfl rfl rfl
  · by_cases h : q.val = 0
    · rw [if_pos h, if_pos (show q.val = 0 ∨ q.val = 4096 by omega)]
    · rw [if_neg h, if_neg (show ¬ (q.val = 0 ∨ q.val = 4096) by omega)]
      exact L b _ _ _ rfl
  · by_cases h : q.val < 4095
    · rw [dif_pos h, dif_neg (show ¬ (q.val = 4095 ∨ q.val = 4351) by omega)]
      exact L b _ _ _ rfl
    · rw [dif_neg h, dif_pos (show q.val = 4095 ∨ q.val = 4351 by omega)]

/-- A convolved column of a token of the context is the kernel's. -/
theorem ctxConv_eq (b : Fin 8) (q : Fin 4352) (hq : ¬ q.val < 4096) (k : Fin 768) :
    (ctxConv (ctxProj y n g w) f z (ix3 b ⟨q.val - 4096, by omega⟩ k) : EReal) = convd m c b q k := by
  have L := ctx_eq m c x y d n g w e0 e1 e2 e3 e4 e5
  have hlt := q.isLt
  refine (ctxConv_at _ f z b ⟨q.val - 4096, by omega⟩ k).trans ?_
  subst e6 e7
  unfold convd convolved
  refine conv_congr ?_ (L b _ q _ (show q.val = 4096 + (q.val - 4096) by omega)) ?_ rfl rfl rfl rfl
  · by_cases h : q.val - 4096 = 0
    · rw [if_pos h, if_pos (show q.val = 0 ∨ q.val = 4096 by omega)]
    · rw [if_neg h, if_neg (show ¬ (q.val = 0 ∨ q.val = 4096) by omega)]
      exact L b _ _ _ (show q.val - 1 = 4096 + (q.val - 4096 - 1) by omega)
  · by_cases h : q.val - 4096 < 255
    · rw [dif_pos h, dif_neg (show ¬ (q.val = 4095 ∨ q.val = 4351) by omega)]
      exact L b _ _ _ (show q.val + 1 = 4096 + (q.val - 4096 + 1) by omega)
    · rw [dif_neg h, dif_pos (show q.val = 4095 ∨ q.val = 4351 by omega)]

/-- The convolution's first third. -/
theorem gates_eq : gateRows (latConv (latProj x d g w) f z) (ctxConv (ctxProj y n g w) f z) = gates m c := by
  funext i
  have hi : i = ix3 (i 0) (i 1) (i 2) := by funext a; match a with | ⟨0, _⟩ => rfl | ⟨1, _⟩ => rfl | ⟨2, _⟩ => rfl
  refine (congrArg _ hi).trans ((gateRows_at _ _ (i 0) (i 1) (i 2)).trans ?_)
  by_cases hq : (i 1).val < 4096
  · exact (dif_pos hq).trans (latConv_eq m c x y d n g w e0 e1 e2 e3 e4 e5 f z e6 e7 (i 0) (i 1) hq _)
  · exact (dif_neg hq).trans (ctxConv_eq m c x y d n g w e0 e1 e2 e3 e4 e5 f z e6 e7 (i 0) (i 1) hq _)

/-- The product of the convolution's other two thirds. -/
theorem products_eq : productRows (latConv (latProj x d g w) f z) (ctxConv (ctxProj y n g w) f z) = products m c := by
  funext i
  have hi : i = ix3 (i 0) (i 1) (i 2) := by funext a; match a with | ⟨0, _⟩ => rfl | ⟨1, _⟩ => rfl | ⟨2, _⟩ => rfl
  refine (congrArg _ hi).trans ((productRows_at _ _ (i 0) (i 1) (i 2)).trans ?_)
  by_cases hq : (i 1).val < 4096
  · exact (dif_pos hq).trans (congrArg₂ (fun a b : EReal => a * b)
      (latConv_eq m c x y d n g w e0 e1 e2 e3 e4 e5 f z e6 e7 (i 0) (i 1) hq _)
      (latConv_eq m c x y d n g w e0 e1 e2 e3 e4 e5 f z e6 e7 (i 0) (i 1) hq _))
  · exact (dif_neg hq).trans (congrArg₂ (fun a b : EReal => a * b)
      (ctxConv_eq m c x y d n g w e0 e1 e2 e3 e4 e5 f z e6 e7 (i 0) (i 1) hq _)
      (ctxConv_eq m c x y d n g w e0 e1 e2 e3 e4 e5 f z e6 e7 (i 0) (i 1) hq _))
end

/-- The third branch's channels. -/
theorem channels_eq (h h') : sideBySide (extractStridedSlice S8x4096x256 ![0, 0, 768] (latProj x d g w) h)
    (extractStridedSlice S8x256x256 ![0, 0, 768] (ctxProj y n g w) h') = channels m c := by
  funext i
  have hi : i = ix2 (i 0) (i 1) := by funext a; match a with | ⟨0, _⟩ => rfl | ⟨1, _⟩ => rfl
  refine (congrArg _ hi).trans ((sideBySide_at _ _ (i 0) (i 1)).trans ?_)
  refine Eq.trans ?_ (joined_eq m c x y d n g w e0 e1 e2 e3 e4 e5 ⟨(i 1).val / 256, Nat.div_lt_of_lt_mul (i 1).isLt⟩ (i 0)
    ⟨768 + (i 1).val % 256, by omega⟩)
  by_cases hq : (i 0).val < 4096
  · rw [dif_pos hq, dif_pos hq]; exact latChannels_at _ _ h _ _ _
  · rw [dif_neg hq, dif_neg hq]; exact ctxChannels_at _ _ h' _ _ _

/-- The queries. -/
theorem queries_eq (h h') : plainRows (extractStridedSlice S8x4096x512 ![0, 0, 1024] (latProj x d g w) h)
    (extractStridedSlice S8x256x512 ![0, 0, 1024] (ctxProj y n g w) h') = queries m c :=
  funext fun i => plain_eq m c x y d n g w e0 e1 e2 e3 e4 e5 (by decide) h h' i

/-- The values. -/
theorem values_eq (h h') : plainRows (extractStridedSlice S8x4096x512 ![0, 0, 2048] (latProj x d g w) h)
    (extractStridedSlice S8x256x512 ![0, 0, 2048] (ctxProj y n g w) h') = values m c :=
  funext fun i => plain_eq m c x y d n g w e0 e1 e2 e3 e4 e5 (by decide) h h' i

/-- The rotated queries. -/
theorem queriesR_eq (h h') : turnedRows (extractStridedSlice S8x4096x512 ![0, 0, 1024] (latProj x d g w) h)
    (extractStridedSlice S8x256x512 ![0, 0, 1024] (ctxProj y n g w) h') = queriesR m c :=
  funext fun i => turned_eq m c x y d n g w e0 e1 e2 e3 e4 e5 (by decide) h h' i

/-- The rotated keys. -/
theorem keysR_eq (h h') : turnedRows (extractStridedSlice S8x4096x512 ![0, 0, 1536] (latProj x d g w) h)
    (extractStridedSlice S8x256x512 ![0, 0, 1536] (ctxProj y n g w) h') = keysR m c :=
  funext fun i => turned_eq m c x y d n g w e0 e1 e2 e3 e4 e5 (by decide) h h' i
end

end Cert.Proj.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel2Ideal.Value
public import proofs.«01_k».proof.Proof.Gen.Pre_finite
public import proofs.«01_k».proof.Proof.Array
public import proofs.«01_k».proof.Proof.Equal
public import proofs.«01_k».proof.Proof.Finite
public import proofs.«01_k».proof.Proof.ProjEqual
public import Idealize.ShloMosaic.Adequacy
public import Idealize.ShloMosaic.Init

@[expose] public section

noncomputable section

namespace Cert.Proof

open Idealize.ShloMosaic Idealize.SL.Sem

/-- The reference runs to its end, leaves its arguments as they were and declares no semaphore. -/
theorem frame_reference : Cert.quiescent_ReferenceIdeal := fun m ρ _ =>
  (θ_run _ _ _).mono (fun r h => And.intro (fun c => (h c).2) (sem_eq_zero_of_no_sems (by decide) r.2))
    (Cert.ReferenceIdeal.Value.run (F := Ideal) m ρ)

/-- The kernel's and the reference's results are equal where the latents' queries and all the keys are real. -/
theorem algebraic : Cert.algebraic_KernelIdeal_ReferenceIdeal_pre_finite := by
  intro m g m' g' hpre hargs
  refine ⟨fun c => Cert.Attn.result m c, ?_, ?_⟩
  · exact (θ_run _ _ _).mono (fun r h c => ⟨(h c).1.trans (Cert.Attn.final m c), (h c).2⟩)
      (Cert.KernelIdeal.Value.run_blocks (F := Ideal) m g)
  · refine (θ_run _ _ _).mono (fun r h c => ⟨(h c).1.trans ?_, (h c).2⟩) (Cert.ReferenceIdeal.Value.run (F := Ideal) m' g')
    obtain ⟨a0, a1, a2, -, a4, a5, a6, a7, a8, a9, a10, a11⟩ := hargs c
    obtain ⟨r0, r1, r4⟩ := Cert.Attn.finite_real _ _ _ _ _ _ _ _ _ _ _ _ (hpre c)
    choose Q hQ using r0
    choose K hK using r1
    choose C hC using r4
    exact Cert.Attn.out_eq m c _ a0 a1 a2 a4 a5 a6 a7 a8 a9 a10 a11 Q K C hQ hK hC

/-- The projection's reference runs to its end, leaves its arguments as they were and declares no semaphore. -/
theorem frame_reference2 : Cert.quiescent_Reference2Ideal := fun m ρ _ =>
  (θ_run _ _ _).mono (fun r h => And.intro (fun c => (h c).2.2.2.2.2.2.2) (sem_eq_zero_of_no_sems (by decide) r.2))
    (Cert.Reference2Ideal.Value.run (F := Ideal) m ρ)

/-- The seven results of the projection's kernel and of its reference are equal, whatever the arguments. -/
theorem algebraic2 : Cert.algebraic_Kernel2Ideal_Reference2Ideal := by
  intro m g m' g' _ hargs
  refine ⟨fun c => Cert.Proj.gates m c, fun c => Cert.Proj.products m c, fun c => Cert.Proj.channels m c, fun c => Cert.Proj.queries m c,
    fun c => Cert.Proj.queriesR m c, fun c => Cert.Proj.keysR m c, fun c => Cert.Proj.values m c, ?_, ?_⟩
  · exact (θ_run _ _ _).mono (fun r h c => by
      obtain ⟨h0, h1, h2, h3, h4, h5, h6, h7⟩ := h c
      exact ⟨h0.trans (Cert.Proj.final10 m c), h1.trans (Cert.Proj.final11 m c), h2.trans (Cert.Proj.final12 m c),
        h3.trans (Cert.Proj.final13 m c), h4.trans (Cert.Proj.final14 m c), h5.trans (Cert.Proj.final15 m c),
        h6.trans (Cert.Proj.final16 m c), h7⟩)
      (Cert.Kernel2Ideal.Value.run_blocks (F := Ideal) m g)
  · refine (θ_run _ _ _).mono (fun r h c => ?_) (Cert.Reference2Ideal.Value.run (F := Ideal) m' g')
    obtain ⟨h0, h1, h2, h3, h4, h5, h6, h7⟩ := h c
    obtain ⟨a0, a1, a2, a3, a4, a5, a6, a7⟩ := hargs c
    exact ⟨h0.trans (Cert.Proj.Ref.gates_eq m c _ _ _ _ _ _ a0 a1 a2 a3 a4 a5 _ _ a6 a7),
      h1.trans (Cert.Proj.Ref.products_eq m c _ _ _ _ _ _ a0 a1 a2 a3 a4 a5 _ _ a6 a7),
      h2.trans (Cert.Proj.Ref.channels_eq m c _ _ _ _ _ _ a0 a1 a2 a3 a4 a5 _ _),
      h3.trans (Cert.Proj.Ref.queries_eq m c _ _ _ _ _ _ a0 a1 a2 a3 a4 a5 _ _),
      h4.trans (Cert.Proj.Ref.queriesR_eq m c _ _ _ _ _ _ a0 a1 a2 a3 a4 a5 _ _),
      h5.trans (Cert.Proj.Ref.keysR_eq m c _ _ _ _ _ _ a0 a1 a2 a3 a4 a5 _ _),
      h6.trans (Cert.Proj.Ref.values_eq m c _ _ _ _ _ _ a0 a1 a2 a3 a4 a5 _ _), h7⟩

/-- The certificate's claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Kernel2.Gen.frame m ρ,
  fun m ρ _ => Cert.Kernel2Ideal.Gen.frame m ρ,
  frame_reference2,
  IdealRules.named_const.statement Cert.KernelIdeal.κ "q_scale" .f32 0x3E38AA3B#32 _ rfl,
  algebraic,
  trivial,
  algebraic2⟩

end Cert.Proof

end
